-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 [hPre_is_core : Cert.Pre_is_core.Facts] (m : (ℓ : Loc Cert.Kernel11.nD Cert.Kernel11.τ Cert.Kernel11.sig) → Buf (Elt Bits) ℓ) : Prop :=
  ∀ c : Dev Cert.Kernel11.nD,
    (Cert.Pre_is_core.fn (F := Bits) (m ((c.tc : Thread Cert.Kernel11.nD Cert.Kernel11.τ).loc Cert.Kernel11.main_arg0)) (m ((c.tc : Thread Cert.Kernel11.nD Cert.Kernel11.τ).loc Cert.Kernel11.main_arg1))) = (fun _ => 1#1)

def Pre_Kernel11Ideal [hPre_is_core : Cert.Pre_is_core.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_is_core.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_is_core [hPre_is_core : Cert.Pre_is_core.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_is_core.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1))) = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] [hPre_is_core : Cert.Pre_is_core.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] [hPre_is_core : Cert.Pre_is_core.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Reference11Ideal_pre_is_core [hReference11Ideal : Cert.Reference11Ideal.Facts] [hPre_is_core : Cert.Pre_is_core.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_is_core m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_v43) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_v3) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)) (v2 : (c : Dev Cert.Kernel4Ideal.nD) → Buf (Elt Ideal) ((c.tc : Thread Cert.Kernel4Ideal.nD Cert.Kernel4Ideal.τ).loc Cert.Kernel4Ideal.main_v12_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_v12_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_v12) = v1 c
          ∧ r.2.mem ((c.tc : Thread Cert.Reference4Ideal.nD Cert.Reference4Ideal.τ).loc Cert.Reference4Ideal.main_v13) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)) (v2 : (c : Dev Cert.Kernel5Ideal.nD) → Buf (Elt Ideal) ((c.tc : Thread Cert.Kernel5Ideal.nD Cert.Kernel5Ideal.τ).loc Cert.Kernel5Ideal.main_v11_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_v11_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_v26) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v12_0)) (v1 : (c : Dev Cert.Kernel6Ideal.nD) → Buf (Elt Ideal) ((c.tc : Thread Cert.Kernel6Ideal.nD Cert.Kernel6Ideal.τ).loc Cert.Kernel6Ideal.main_v12_1)) (v2 : (c : Dev Cert.Kernel6Ideal.nD) → Buf (Elt Ideal) ((c.tc : Thread Cert.Kernel6Ideal.nD Cert.Kernel6Ideal.τ).loc Cert.Kernel6Ideal.main_v12_2)) (v3 : (c : Dev Cert.Kernel6Ideal.nD) → Buf (Elt Ideal) ((c.tc : Thread Cert.Kernel6Ideal.nD Cert.Kernel6Ideal.τ).loc Cert.Kernel6Ideal.main_v12_3)) (v4 : (c : Dev Cert.Kernel6Ideal.nD) → Buf (Elt Ideal) ((c.tc : Thread Cert.Kernel6Ideal.nD Cert.Kernel6Ideal.τ).loc Cert.Kernel6Ideal.main_v12_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12_0) = v0 c
          ∧ r.2.mem ((c.tc : Thread Cert.Kernel6Ideal.nD Cert.Kernel6Ideal.τ).loc Cert.Kernel6Ideal.main_v12_1) = v1 c
          ∧ r.2.mem ((c.tc : Thread Cert.Kernel6Ideal.nD Cert.Kernel6Ideal.τ).loc Cert.Kernel6Ideal.main_v12_2) = v2 c
          ∧ r.2.mem ((c.tc : Thread Cert.Kernel6Ideal.nD Cert.Kernel6Ideal.τ).loc Cert.Kernel6Ideal.main_v12_3) = v3 c
          ∧ r.2.mem ((c.tc : Thread Cert.Kernel6Ideal.nD Cert.Kernel6Ideal.τ).loc Cert.Kernel6Ideal.main_v12_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v71) = v0 c
          ∧ r.2.mem ((c.tc : Thread Cert.Reference6Ideal.nD Cert.Reference6Ideal.τ).loc Cert.Reference6Ideal.main_v74) = v1 c
          ∧ r.2.mem ((c.tc : Thread Cert.Reference6Ideal.nD Cert.Reference6Ideal.τ).loc Cert.Reference6Ideal.main_v77) = v2 c
          ∧ r.2.mem ((c.tc : Thread Cert.Reference6Ideal.nD Cert.Reference6Ideal.τ).loc Cert.Reference6Ideal.main_v78) = v3 c
          ∧ r.2.mem ((c.tc : Thread Cert.Reference6Ideal.nD Cert.Reference6Ideal.τ).loc Cert.Reference6Ideal.main_v79) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] [hPre_is_core : Cert.Pre_is_core.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v11)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v11) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_is_core : Cert.Pre_is_core.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11) (hPre_is_core := hPre_is_core)
    ∧ quiescent_Kernel11Ideal (hKernel11Ideal := hKernel11Ideal) (hPre_is_core := hPre_is_core)
    ∧ quiescent_Reference11Ideal (hReference11Ideal := hReference11Ideal)
    ∧ quiescent_Reference11Ideal_pre_is_core (hReference11Ideal := hReference11Ideal) (hPre_is_core := hPre_is_core)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal) (hPre_is_core := hPre_is_core)
-- ==== Pre_is_core.lean ====
abbrev S2x4x704x1024 : Shape := ⟨4, ![2, 4, 704, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2x4x704x1024 .f32) (main_arg1 : IVec S1 32) : IVec S1 1 :=
  let main_c : IVec S_ 32 := constantI S_ 32 0#32
  let main_v0 : IVec S1 32 := broadcastInDim S1 ![] bcast_S_S1 main_c
  let main_v1 : IVec S1 1 := cmpi .eq main_arg1 main_v0
  let main_c_0 : IVec S_ 32 := constantI S_ 32 1#32
  let main_v2 : IVec S1 32 := broadcastInDim S1 ![] bcast_S_S1 main_c_0
  let main_v3 : IVec S1 1 := cmpi .eq main_arg1 main_v2
  let main_v4 : IVec S1 1 := ori main_v1 main_v3
  main_v4
-- ==== Kernel2.lean ====
abbrev S8192x1024 : Shape := ⟨2, ![8192, 1024]⟩
abbrev S1024 : Shape := ⟨1, ![1024]⟩
abbrev S1024x2048 : Shape := ⟨2, ![1024, 2048]⟩
abbrev S8192x2048 : Shape := ⟨2, ![8192, 2048]⟩
abbrev S1024x4x512 : Shape := ⟨3, ![1024, 4, 512]⟩
abbrev S4x1024x512 : Shape := ⟨3, ![4, 1024, 512]⟩
abbrev S8192x512 : Shape := ⟨2, ![8192, 512]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩

abbrev nBuf : Space → Nat
  | .hbm => 16
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S8192x2048, .f32⟩
  | .hbm, ⟨4, _⟩ => ⟨S8192x1024, .f32⟩
  | .hbm, ⟨5, _⟩ => ⟨S8192x2048, .bf16⟩
  | .hbm, ⟨6, _⟩ => ⟨S1024x2048, .bf16⟩
  | .hbm, ⟨7, _⟩ => ⟨S1024x4x512, .bf16⟩
  | .hbm, ⟨8, _⟩ => ⟨S4x1024x512, .bf16⟩
  | .hbm, ⟨9, _⟩ => ⟨S8192x1024, .bf16⟩
  | .hbm, ⟨10, _⟩ => ⟨S8192x512, .bf16⟩
  | .hbm, ⟨11, _⟩ => ⟨S8192x512, .bf16⟩
  | .hbm, ⟨12, _⟩ => ⟨S1x1024, .f32⟩
  | .hbm, ⟨13, _⟩ => ⟨S8192x1024, .f32⟩
  | .hbm, ⟨14, _⟩ => ⟨S4x1024x512, .f32⟩
  | .hbm, ⟨15, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S4x1024x512, .bf16⟩
  | .local _ .vmem, ⟨12, _⟩ => ⟨S512x1024, .f32⟩
  | .local _ .vmem, ⟨13, _⟩ => ⟨S512x1024, .f32⟩
  | .local _ .vmem, ⟨14, _⟩ => ⟨S4x1024x512, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x1024x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S8192x1024 : Shape := ⟨2, ![8192, 1024]⟩
abbrev S1024 : Shape := ⟨1, ![1024]⟩
abbrev S1024x2048 : Shape := ⟨2, ![1024, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2048, .f32⟩
  | .hbm, ⟨26, _⟩ => ⟨S2048x1024, .f32⟩
  | .hbm, ⟨27, _⟩ => ⟨S1024x2048, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1024x4x512, .f32⟩
  | .hbm, ⟨56, _⟩ => ⟨S4x1024x512, .f32⟩
  | .hbm, ⟨57, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel3.lean ====
abbrev S8192x512 : Shape := ⟨2, ![8192, 512]⟩
abbrev S1024x1024 : Shape := ⟨2, ![1024, 1024]⟩
abbrev S8192x1024 : Shape := ⟨2, ![8192, 1024]⟩
abbrev S512x1024 : Shape := ⟨2, ![512, 1024]⟩
abbrev S512x512 : Shape := ⟨2, ![512, 512]⟩

abbrev nBuf : Space → Nat
  | .hbm => 9
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S8192x512, .bf16⟩
  | .hbm, ⟨5, _⟩ => ⟨S8192x512, .bf16⟩
  | .hbm, ⟨6, _⟩ => ⟨S1024x1024, .bf16⟩
  | .hbm, ⟨7, _⟩ => ⟨S8192x1024, .f32⟩
  | .hbm, ⟨8, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference3Ideal.lean ====
abbrev S8192x512 : Shape := ⟨2, ![8192, 512]⟩
abbrev S1024x1024 : Shape := ⟨2, ![1024, 1024]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel4.lean ====
abbrev S8192x1024 : Shape := ⟨2, ![8192, 1024]⟩
abbrev S8192x2816 : Shape := ⟨2, ![8192, 2816]⟩
abbrev S1024x2816 : Shape := ⟨2, ![1024, 2816]⟩
abbrev S2816x1024 : Shape := ⟨2, ![2816, 1024]⟩
abbrev S_ : Shape := ⟨0, ![]⟩
abbrev S8x128 : Shape := ⟨2, ![8, 128]⟩
abbrev S8192x4x704 : Shape := ⟨3, ![8192, 4, 704]⟩
abbrev S4x8192x704 : Shape := ⟨3, ![4, 8192, 704]⟩
abbrev S4x704x1024 : Shape := ⟨3, ![4, 704, 1024]⟩
abbrev S1024x1024 : Shape := ⟨2, ![1024, 1024]⟩
abbrev S1x1024x704 : Shape := ⟨3, ![1, 1024, 704]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 24
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S8192x1024, .f32⟩
  | .hbm, ⟨8, _⟩ => ⟨S_, .f32⟩
  | .hbm, ⟨9, _⟩ => ⟨S8x128, .f32⟩
  | .hbm, ⟨10, _⟩ => ⟨S8192x2816, .bf16⟩
  | .hbm, ⟨11, _⟩ => ⟨S8192x4x704, .bf16⟩
  | .hbm, ⟨12, _⟩ => ⟨S4x8192x704, .bf16⟩
  | .hbm, ⟨13, _⟩ => ⟨S8192x2816, .bf16⟩
  | .hbm, ⟨14, _⟩ => ⟨S8192x4x704, .bf16⟩
  | .hbm, ⟨15, _⟩ => ⟨S4x8192x704, .bf16⟩
  | .hbm, ⟨16, _⟩ => ⟨S8192x1024, .bf16⟩
  | .hbm, ⟨17, _⟩ => ⟨S8192x2816, .bf16⟩
  | .hbm, ⟨18, _⟩ => ⟨S8192x4x704, .bf16⟩
  | .hbm, ⟨19, _⟩ => ⟨S4x8192x704, .bf16⟩
  | .hbm, ⟨20, _⟩ => ⟨S8192x1024, .bf16⟩
  | .hbm, ⟨21, _⟩ => ⟨S4x704x1024, .f32⟩
  | .hbm, ⟨22, _⟩ => ⟨S4x704x1024, .f32⟩
  | .hbm, ⟨23, _⟩ => ⟨S4x704x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S8x128, .f32⟩
  | .local _ .vmem, ⟨11, _⟩ => ⟨S1x704x1024, .f32⟩
  | .local _ .vmem, ⟨12, _⟩ => ⟨S1x704x1024, .f32⟩
  | .local _ .vmem, ⟨13, _⟩ => ⟨S1x704x1024, .f32⟩
  | .local _ .vmem, ⟨14, _⟩ => ⟨S1x704x1024, .f32⟩
  | .local _ .vmem, ⟨15, _⟩ => ⟨S1x704x1024, .f32⟩
  | .local _ .vmem, ⟨16, _⟩ => ⟨S1x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x704x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference4Ideal.lean ====
abbrev S8192x1024 : Shape := ⟨2, ![8192, 1024]⟩
abbrev S8192x2816 : Shape := ⟨2, ![8192, 2816]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S8192x1024, .f32⟩
  | .hbm, ⟨8, _⟩ => ⟨S8192x2816, .f32⟩
  | .hbm, ⟨9, _⟩ => ⟨S8192x2816, .f32⟩
  | .hbm, ⟨10, _⟩ => ⟨S8192x1024, .f32⟩
  | .hbm, ⟨11, _⟩ => ⟨S1024x2816, .f32⟩
  | .hbm, ⟨12, _⟩ => ⟨S2816x1024, .f32⟩
  | .hbm, ⟨13, _⟩ => ⟨S2816x1024, .f32⟩
  | .hbm, ⟨14, _⟩ => ⟨S1024x2816, .f32⟩
  | .hbm, ⟨15, _⟩ => ⟨S2816x1024, .f32⟩
  | .hbm, ⟨16, _⟩ => ⟨S1024x2816, .f32⟩
  | .hbm, ⟨17, _⟩ => ⟨S2816x1024, .f32⟩
  | .hbm, ⟨18, _⟩ => ⟨S4x704x1024, .f32⟩
  | .hbm, ⟨19, _⟩ => ⟨S2816x1024, .f32⟩
  | .hbm, ⟨20, _⟩ => ⟨S4x704x1024, .f32⟩
  | .hbm, ⟨21, _⟩ => ⟨S4x704x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4x704x1024 : Shape := ⟨3, ![4, 704, 1024]⟩
abbrev S1x4x704x1024 : Shape := ⟨4, ![1, 4, 704, 1024]⟩
abbrev S3x4x704x1024 : Shape := ⟨4, ![3, 4, 704, 1024]⟩
abbrev S4x8192x704 : Shape := ⟨3, ![4, 8192, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S1024x1 : Shape := ⟨2, ![1024, 1]⟩
abbrev S256x1024 : Shape := ⟨2, ![256, 1024]⟩
abbrev S704x1024 : Shape := ⟨2, ![704, 1024]⟩
abbrev S256x704 : Shape := ⟨2, ![256, 704]⟩
abbrev S1x256x704 : Shape := ⟨3, ![1, 256, 704]⟩

abbrev nBuf : Space → Nat
  | .hbm => 19
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S2816x1024, .f32⟩
  | .hbm, ⟨7, _⟩ => ⟨S4x704x1024, .f32⟩
  | .hbm, ⟨8, _⟩ => ⟨S2816x1024, .f32⟩
  | .hbm, ⟨9, _⟩ => ⟨S4x704x1024, .f32⟩
  | .hbm, ⟨10, _⟩ => ⟨S4x704x1024, .f32⟩
  | .hbm, ⟨11, _⟩ => ⟨S1x4x704x1024, .f32⟩
  | .hbm, ⟨12, _⟩ => ⟨S1x4x704x1024, .f32⟩
  | .hbm, ⟨13, _⟩ => ⟨S1x4x704x1024, .f32⟩
  | .hbm, ⟨14, _⟩ => ⟨S3x4x704x1024, .f32⟩
  | .hbm, ⟨15, _⟩ => ⟨S3x4x704x1024, .bf16⟩
  | .hbm, ⟨16, _⟩ => ⟨S8192x1024, .f32⟩
  | .hbm, ⟨17, _⟩ => ⟨S4x8192x704, .bf16⟩
  | .hbm, ⟨18, _⟩ => ⟨S4x8192x704, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1x704x1024, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1024x704, .bf16⟩
  | .local _ .vmem, ⟨15, _⟩ => ⟨S1024x1024, .bf16⟩
  | .local _ .vmem, ⟨16, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v111 : BitVec 1 := Scalar.cmpi .eq arg1 c3_i32
  let v112 : BitVec 32 := Scalar.extui v111
  let c0_i32_104 : BitVec 32 := 0#32
  let v113 : BitVec 1 := Scalar.cmpi .ne v112 c0_i32_104
  v113

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x2816, .bf16⟩
  | .hbm, ⟨39, _⟩ => ⟨S8192x4x704, .bf16⟩
  | .hbm, ⟨40, _⟩ => ⟨S4x8192x704, .bf16⟩
  | .hbm, ⟨41, _⟩ => ⟨S8192x2816, .bf16⟩
  | .hbm, ⟨42, _⟩ => ⟨S8192x4x704, .bf16⟩
  | .hbm, ⟨43, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Kernel6.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4x704x1024 : Shape := ⟨3, ![4, 704, 1024]⟩
abbrev S1x4x704x1024 : Shape := ⟨4, ![1, 4, 704, 1024]⟩
abbrev S3x4x704x1024 : Shape := ⟨4, ![3, 4, 704, 1024]⟩
abbrev S4x8192x704 : Shape := ⟨3, ![4, 8192, 704]⟩
abbrev S8x128 : Shape := ⟨2, ![8, 128]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S1024x1 : Shape := ⟨2, ![1024, 1]⟩
abbrev S256x1024 : Shape := ⟨2, ![256, 1024]⟩
abbrev S704x1024 : Shape := ⟨2, ![704, 1024]⟩
abbrev S256x704 : Shape := ⟨2, ![256, 704]⟩
abbrev S1x256x704 : Shape := ⟨3, ![1, 256, 704]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 24
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S8192x1024, .f32⟩
  | .hbm, ⟨7, _⟩ => ⟨S1x1024, .f32⟩
  | .hbm, ⟨8, _⟩ => ⟨S2816x1024, .f32⟩
  | .hbm, ⟨9, _⟩ => ⟨S4x704x1024, .f32⟩
  | .hbm, ⟨10, _⟩ => ⟨S2816x1024, .f32⟩
  | .hbm, ⟨11, _⟩ => ⟨S4x704x1024, .f32⟩
  | .hbm, ⟨12, _⟩ => ⟨S4x704x1024, .f32⟩
  | .hbm, ⟨13, _⟩ => ⟨S1x4x704x1024, .f32⟩
  | .hbm, ⟨14, _⟩ => ⟨S1x4x704x1024, .f32⟩
  | .hbm, ⟨15, _⟩ => ⟨S1x4x704x1024, .f32⟩
  | .hbm, ⟨16, _⟩ => ⟨S3x4x704x1024, .f32⟩
  | .hbm, ⟨17, _⟩ => ⟨S3x4x704x1024, .bf16⟩
  | .hbm, ⟨18, _⟩ => ⟨S1x1024, .f32⟩
  | .hbm, ⟨19, _⟩ => ⟨S8192x1024, .f32⟩
  | .hbm, ⟨20, _⟩ => ⟨S4x8192x704, .bf16⟩
  | .hbm, ⟨21, _⟩ => ⟨S4x8192x704, .bf16⟩
  | .hbm, ⟨22, _⟩ => ⟨S8x128, .f32⟩
  | .hbm, ⟨23, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1x704x1024, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S8x128, .f32⟩
  | .local _ .vmem, ⟨19, _⟩ => ⟨S1x1024, .f32⟩
  | .local _ .vmem, ⟨20, _⟩ => ⟨S1024x1024, .bf16⟩
  | .local _ .vmem, ⟨21, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v116 : BitVec 1 := Scalar.cmpi .eq arg1 c3_i32
  let v117 : BitVec 32 := Scalar.extui v116
  let c0_i32_107 : BitVec 32 := 0#32
  let v118 : BitVec 1 := Scalar.cmpi .ne v117 c0_i32_107
  v118

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Reference6Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S8x128 : Shape := ⟨2, ![8, 128]⟩

abbrev nBuf : Space → Nat
  | .hbm => 116
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S_, .f32⟩
  | .hbm, ⟨68, _⟩ => ⟨S8192, .f32⟩
  | .hbm, ⟨69, _⟩ => ⟨S8192, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S8192, .f32⟩
  | .hbm, ⟨78, _⟩ => ⟨S_, .f32⟩
  | .hbm, ⟨79, _⟩ => ⟨S8192, .f32⟩
  | .hbm, ⟨80, _⟩ => ⟨S8192, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S1024, .f32⟩
  | .hbm, ⟨91, _⟩ => ⟨S8192x1024, .f32⟩
  | .hbm, ⟨92, _⟩ => ⟨S_, .f32⟩
  | .hbm, ⟨93, _⟩ => ⟨S8192, .f32⟩
  | .hbm, ⟨94, _⟩ => ⟨S8192x1, .f32⟩
  | .hbm, ⟨95, _⟩ => ⟨S8192x1024, .f32⟩
  | .hbm, ⟨96, _⟩ => ⟨S8192x1024, .f32⟩
  | .hbm, ⟨97, _⟩ => ⟨S8192x1, .f32⟩
  | .hbm, ⟨98, _⟩ => ⟨S_, .f32⟩
  | .hbm, ⟨99, _⟩ => ⟨S8192x1, .f32⟩
  | .hbm, ⟨100, _⟩ => ⟨S8192x1, .f32⟩
  | .hbm, ⟨101, _⟩ => ⟨S_, .f32⟩
  | .hbm, ⟨102, _⟩ => ⟨S8192, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x2816, .bf16⟩
  | .hbm, ⟨109, _⟩ => ⟨S8192x4x704, .bf16⟩
  | .hbm, ⟨110, _⟩ => ⟨S4x8192x704, .bf16⟩
  | .hbm, ⟨111, _⟩ => ⟨S8192x2816, .bf16⟩
  | .hbm, ⟨112, _⟩ => ⟨S8192x4x704, .bf16⟩
  | .hbm, ⟨113, _⟩ => ⟨S4x8192x704, .bf16⟩
  | .hbm, ⟨114, _⟩ => ⟨S8x128, .f32⟩
  | .hbm, ⟨115, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_cst_11 : Ref sig .tc := ⟨.hbm, 72, rfl⟩
abbrev main_v45 : Ref sig .tc := ⟨.hbm, 73, rfl⟩
abbrev main_cst_12 : Ref sig .tc := ⟨.hbm, 74, rfl⟩
abbrev main_cst_13 : Ref sig .tc := ⟨.hbm, 75, rfl⟩
abbrev main_v46 : Ref sig .tc := ⟨.hbm, 76, rfl⟩
abbrev main_v47 : Ref sig .tc := ⟨.hbm, 77, rfl⟩
abbrev main_cst_14 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_15 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_16 : Ref sig .tc := ⟨.hbm, 89, rfl⟩
abbrev main_v57 : Ref sig .tc := ⟨.hbm, 90, rfl⟩
abbrev main_v58 : Ref sig .tc := ⟨.hbm, 91, rfl⟩
abbrev main_cst_17 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_18 : Ref sig .tc := ⟨.hbm, 98, rfl⟩
abbrev main_v64 : Ref sig .tc := ⟨.hbm, 99, rfl⟩
abbrev main_v65 : Ref sig .tc := ⟨.hbm, 100, rfl⟩
abbrev main_cst_19 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩

abbrev nD : Nat := 1
abbrev τ : Topo := Topo.v7x

variable {F : FTy → Type} [FloatOps F]
-- ==== Kernel7.lean ====
abbrev S8192x1024 : Shape := ⟨2, ![8192, 1024]⟩
abbrev S1024 : Shape := ⟨1, ![1024]⟩
abbrev S1024x2048 : Shape := ⟨2, ![1024, 2048]⟩
abbrev S1x1024 : Shape := ⟨2, ![1, 1024]⟩
abbrev S1024x4x512 : Shape := ⟨3, ![1024, 4, 512]⟩
abbrev S4x1024x512 : Shape := ⟨3, ![4, 1024, 512]⟩
abbrev S8192x2048 : Shape := ⟨2, ![8192, 2048]⟩
abbrev S1024x1024 : Shape := ⟨2, ![1024, 1024]⟩
abbrev S1024x1 : Shape := ⟨2, ![1024, 1]⟩
abbrev S1x1024x512 : Shape := ⟨3, ![1, 1024, 512]⟩
abbrev S1024x512 : Shape := ⟨2, ![1024, 512]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S1024x2048, .bf16⟩
  | .hbm, ⟨5, _⟩ => ⟨S1024x4x512, .bf16⟩
  | .hbm, ⟨6, _⟩ => ⟨S4x1024x512, .bf16⟩
  | .hbm, ⟨7, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S4x1024x512, .bf16⟩
  | .local _ .vmem, ⟨4, _⟩ => ⟨S1024x2048, .f32⟩
  | .local _ .vmem, ⟨5, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8192x1024 : Shape := ⟨2, ![8192, 1024]⟩
abbrev S1024 : Shape := ⟨1, ![1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel8.lean ====
abbrev S8192x1024 : Shape := ⟨2, ![8192, 1024]⟩
abbrev S8192x512 : Shape := ⟨2, ![8192, 512]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S8192x512, .bf16⟩
  | .hbm, ⟨5, _⟩ => ⟨S8192x512, .bf16⟩
  | .hbm, ⟨6, _⟩ => ⟨S1024x1024, .bf16⟩
  | .hbm, ⟨7, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S8192x1024 : Shape := ⟨2, ![8192, 1024]⟩
abbrev S8192x512 : Shape := ⟨2, ![8192, 512]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel9.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S8x752x128 : Shape := ⟨3, ![8, 752, 128]⟩
abbrev S1 : Shape := ⟨1, ![1]⟩
abbrev S_ : Shape := ⟨0, ![]⟩
abbrev S1x752x128 : Shape := ⟨3, ![1, 752, 128]⟩
abbrev S752x128 : Shape := ⟨2, ![752, 128]⟩

abbrev nBuf : Space → Nat
  | .hbm => 18
  | .vmem => 3
  | .smem => 1
  | _ => 0

abbrev bufTy : (tb : Table) → Fin (tcTables nBuf tb) → BufTy
  | .hbm, ⟨0, _⟩ => ⟨S8x752x128, .f32⟩
  | .hbm, ⟨1, _⟩ => ⟨S8x752x128, .f32⟩
  | .hbm, ⟨2, _⟩ => ⟨S_, .i32⟩
  | .hbm, ⟨3, _⟩ => ⟨S_, .i32⟩
  | .hbm, ⟨4, _⟩ => ⟨S_, .i1⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1x752x128, .f32⟩
  | .hbm, ⟨11, _⟩ => ⟨S752x128, .f32⟩
  | .hbm, ⟨12, _⟩ => ⟨S8x752x128, .i32⟩
  | .hbm, ⟨13, _⟩ => ⟨S_, .i32⟩
  | .hbm, ⟨14, _⟩ => ⟨S8x752x128, .i32⟩
  | .hbm, ⟨15, _⟩ => ⟨S8x752x128, .i1⟩
  | .hbm, ⟨16, _⟩ => ⟨S8x752x128, .f32⟩
  | .hbm, ⟨17, _⟩ => ⟨S752x128, .f32⟩
  | .local _ .vmem, ⟨0, _⟩ => ⟨S752x128, .f32⟩
  | .local _ .vmem, ⟨1, _⟩ => ⟨S8x752x128, .f32⟩
  | .local _ .vmem, ⟨2, _⟩ => ⟨S752x128, .f32⟩
  | .local _ .smem, ⟨0, _⟩ => ⟨S1, .i32⟩
  | _, _ => ⟨S8x752x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_c_0 : Ref sig .tc := ⟨.hbm, 5, rfl⟩
abbrev main_call0_v1 : Ref sig .tc := ⟨.hbm, 6, rfl⟩
abbrev main_call0_v2 : Ref sig .tc := ⟨.hbm, 7, rfl⟩
abbrev main_call0_c_1 : Ref sig .tc := ⟨.hbm, 8, rfl⟩
abbrev main_call0_c_2 : Ref sig .tc := ⟨.hbm, 9, rfl⟩
abbrev main_call0_v3 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S752x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x752x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S752x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference10Ideal.lean ====
abbrev S8x752x128 : Shape := ⟨3, ![8, 752, 128]⟩
abbrev S1 : Shape := ⟨1, ![1]⟩
abbrev S_ : Shape := ⟨0, ![]⟩
abbrev S752x128 : Shape := ⟨2, ![752, 128]⟩

abbrev nBuf : Space → Nat
  | .hbm => 5
  | .vmem => 0
  | .smem => 0
  | _ => 0

abbrev bufTy : (tb : Table) → Fin (tcTables nBuf tb) → BufTy
  | .hbm, ⟨0, _⟩ => ⟨S8x752x128, .f32⟩
  | .hbm, ⟨1, _⟩ => ⟨S8x752x128, .f32⟩
  | .hbm, ⟨2, _⟩ => ⟨S1, .i32⟩
  | .hbm, ⟨3, _⟩ => ⟨S_, .f32⟩
  | .hbm, ⟨4, _⟩ => ⟨S752x128, .f32⟩
  | _, _ => ⟨S8x752x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩

abbrev nD : Nat := 1
abbrev τ : Topo := Topo.v7x

variable {F : FTy → Type} [FloatOps F]
-- ==== Kernel11.lean ====
abbrev S2x4x704x1024 : Shape := ⟨4, ![2, 4, 704, 1024]⟩
abbrev S1 : Shape := ⟨1, ![1]⟩
abbrev S_ : Shape := ⟨0, ![]⟩
abbrev S1x4x704x1024 : Shape := ⟨4, ![1, 4, 704, 1024]⟩
abbrev S4x704x1024 : Shape := ⟨3, ![4, 704, 1024]⟩
abbrev S4x352x1024 : Shape := ⟨3, ![4, 352, 1024]⟩
abbrev S1x352x1024 : Shape := ⟨3, ![1, 352, 1024]⟩
abbrev S352x1024 : Shape := ⟨2, ![352, 1024]⟩

abbrev nBuf : Space → Nat
  | .hbm => 37
  | .vmem => 6
  | .smem => 1
  | _ => 0

abbrev bufTy : (tb : Table) → Fin (tcTables nBuf tb) → BufTy
  | .hbm, ⟨0, _⟩ => ⟨S2x4x704x1024, .f32⟩
  | .hbm, ⟨1, _⟩ => ⟨S_, .i32⟩
  | .hbm, ⟨2, _⟩ => ⟨S_, .i32⟩
  | .hbm, ⟨3, _⟩ => ⟨S_, .i1⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1x4x704x1024, .f32⟩
  | .hbm, ⟨11, _⟩ => ⟨S4x704x1024, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1x4x704x1024, .f32⟩
  | .hbm, ⟨24, _⟩ => ⟨S4x704x1024, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S4x352x1024, .f32⟩
  | .hbm, ⟨36, _⟩ => ⟨S4x352x1024, .bf16⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .bf16⟩
  | .local _ .vmem, ⟨5, _⟩ => ⟨S1x352x1024, .bf16⟩
  | .local _ .smem, ⟨0, _⟩ => ⟨S1, .i32⟩
  | _, _ => ⟨S2x4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_c : Ref sig .tc := ⟨.hbm, 2, rfl⟩
abbrev main_call0_v0 : Ref sig .tc := ⟨.hbm, 3, rfl⟩
abbrev main_call0_c_0 : Ref sig .tc := ⟨.hbm, 4, rfl⟩
abbrev main_call0_v1 : Ref sig .tc := ⟨.hbm, 5, rfl⟩
abbrev main_call0_v2 : Ref sig .tc := ⟨.hbm, 6, rfl⟩
abbrev main_call0_c_1 : Ref sig .tc := ⟨.hbm, 7, rfl⟩
abbrev main_call0_c_2 : Ref sig .tc := ⟨.hbm, 8, rfl⟩
abbrev main_call0_c_3 : Ref sig .tc := ⟨.hbm, 9, rfl⟩
abbrev main_call0_v3 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_call1_c : Ref sig .tc := ⟨.hbm, 15, rfl⟩
abbrev main_call1_v0 : Ref sig .tc := ⟨.hbm, 16, rfl⟩
abbrev main_call1_c_0 : Ref sig .tc := ⟨.hbm, 17, rfl⟩
abbrev main_call1_v1 : Ref sig .tc := ⟨.hbm, 18, rfl⟩
abbrev main_call1_v2 : Ref sig .tc := ⟨.hbm, 19, rfl⟩
abbrev main_call1_c_1 : Ref sig .tc := ⟨.hbm, 20, rfl⟩
abbrev main_call1_c_2 : Ref sig .tc := ⟨.hbm, 21, rfl⟩
abbrev main_call1_c_3 : Ref sig .tc := ⟨.hbm, 22, rfl⟩
abbrev main_call1_v3 : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_c_1 : Ref sig .tc := ⟨.hbm, 28, rfl⟩
abbrev main_v7 : Ref sig .tc := ⟨.hbm, 29, rfl⟩
abbrev main_c_2 : Ref sig .tc := ⟨.hbm, 30, rfl⟩
abbrev main_v8 : Ref sig .tc := ⟨.hbm, 31, rfl⟩
abbrev main_v9 : Ref sig .tc := ⟨.hbm, 32, rfl⟩
abbrev main_c_3 : Ref sig .tc := ⟨.hbm, 33, rfl⟩
abbrev main_c_4 : Ref sig .tc := ⟨.hbm, 34, rfl⟩
abbrev main_v10 : Ref sig .tc := ⟨.hbm, 35, rfl⟩
abbrev main_v11 : Ref sig .tc := ⟨.hbm, 36, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S2x4x704x1024 : Shape := ⟨4, ![2, 4, 704, 1024]⟩
abbrev S1 : Shape := ⟨1, ![1]⟩
abbrev S_ : Shape := ⟨0, ![]⟩
abbrev S4x704x1024 : Shape := ⟨3, ![4, 704, 1024]⟩
abbrev S4x352x1024 : Shape := ⟨3, ![4, 352, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x4x704x1024, .f32⟩
  | .hbm, ⟨1, _⟩ => ⟨S1, .i32⟩
  | .hbm, ⟨2, _⟩ => ⟨S_, .f32⟩
  | .hbm, ⟨3, _⟩ => ⟨S4x704x1024, .f32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .bf16⟩
  | _, _ => ⟨S2x4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.RmsLaw.lean ====
module

public import Idealize.ShloMosaic.Lib.Pipeline.ValueKit
public import Idealize.ShloMosaic.Lib.Pointwise

@[expose] public section

noncomputable section

open Idealize.ShloMosaic

namespace Cert.RmsLaw

/-- A nonnegative real factor goes into a sum of extended reals from the left. -/
theorem real_mul_sum {ι : Type*} (s : Finset ι) (f : ι → EReal) {r : ℝ} (hr : 0 ≤ r) :
    (r : EReal) * ∑ k ∈ s, f k = ∑ k ∈ s, (r : EReal) * f k := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- A nonnegative real factor comes out of a sum of products. -/
theorem sum_mul_real {ι : Type*} (s : Finset ι) (f : ι → EReal) {r : ℝ} (hr : 0 ≤ r) :
    ∑ k ∈ s, f k * (r : EReal) = (∑ k ∈ s, f k) * (r : EReal) := by
  rw [mul_comm, real_mul_sum s f hr]
  exact Finset.sum_congr rfl fun k _ => mul_comm _ _

/-- A square is never negative. -/
theorem sq_nonneg' (x : EReal) : 0 ≤ x * x := by
  induction x with
  | bot => simp
  | top => simp
  | coe r => exact_mod_cast mul_self_nonneg r

/-- Two equal halves of a real multiple make the multiple, also of an infinity. -/
theorem halves (y : EReal) (c : ℝ) : y * ((-(c / 2) : ℝ) : EReal) + y * ((-(c / 2) : ℝ) : EReal) = -(y * (c : EReal)) := by
  rcases lt_trichotomy c 0 with h | h | h
  · have h2 : 0 < -(c / 2) := by linarith
    induction y with
    | bot => rw [EReal.bot_mul_coe_of_pos h2, EReal.bot_mul_coe_of_neg h]; rfl
    | top => rw [EReal.top_mul_coe_of_pos h2, EReal.top_mul_coe_of_neg h]; rfl
    | coe r => exact_mod_cast (by ring : r * -(c / 2) + r * -(c / 2) = -(r * c))
  · subst h; simp
  · have h2 : -(c / 2) < 0 := by linarith
    induction y with
    | bot => rw [EReal.bot_mul_coe_of_neg h2, EReal.bot_mul_coe_of_pos h]; rfl
    | top => rw [EReal.top_mul_coe_of_neg h2, EReal.top_mul_coe_of_pos h]; rfl
    | coe r => exact_mod_cast (by ring : r * -(c / 2) + r * -(c / 2) = -(r * c))

/-- The inverse root mean square of any row of extended reals is zero (the row has an infinity) or a positive
real whose square is the inverse of the mean square. -/
theorem rsqrt_cases {S : EReal} (hS : 0 ≤ S) {e d : ℝ} (he : 0 < e) (hd : 0 < d) :
    (Ideal.div S (d : EReal) + (e : EReal) = ⊤ ∧ Ideal.rsqrt (Ideal.div S (d : EReal) + (e : EReal)) = 0) ∨
      ∃ v : ℝ, 0 < v ∧ Ideal.div S (d : EReal) + (e : EReal) = (v : EReal) ∧
        Ideal.rsqrt (Ideal.div S (d : EReal) + (e : EReal)) = (((Real.sqrt v)⁻¹ : ℝ) : EReal) := by
  have hq : 0 < 1 / d := by positivity
  rw [Ideal.div_coe hd.ne']
  induction S with
  | bot => exact absurd hS (by simp)
  | top =>
    left
    rw [EReal.top_mul_coe_of_pos hq]
    exact ⟨EReal.top_add_coe e, by rw [EReal.top_add_coe]; rfl⟩
  | coe s =>
    right
    have hs : 0 ≤ s := by exact_mod_cast hS
    have hv : 0 < s * (1 / d) + e := by positivity
    refine ⟨s * (1 / d) + e, hv, by push_cast; rfl, ?_⟩
    have : ((s : EReal) * ((1 / d : ℝ) : EReal) + (e : EReal)) = ((s * (1 / d) + e : ℝ) : EReal) := by push_cast; rfl
    rw [this]
    show (if s * (1 / d) + e < 0 then (⊥ : EReal) else if s * (1 / d) + e = 0 then ⊤ else _) = _
    rw [if_neg hv.not_gt, if_neg hv.ne']

/-- The gradient of the root-mean-square normalisation, on every row of extended reals: the kernel's
`r (d − x̂ · mean (d x̂))` plus the residual's part is the sum of the three terms reverse-mode differentiation makes. -/
theorem rms_grad {n : ℕ} (x d : Fin n → EReal) (j : Fin n) (y : EReal) {K E H : EReal} {k e : ℝ}
    (hK : K = (k : EReal)) (hk : 0 < k) (hE : E = (e : EReal)) (he : 0 < e) (hH : H = ((-(1 / 2) : ℝ) : EReal)) :
    let V := Ideal.div (∑ i, x i * x i) K + E
    let R := Ideal.rsqrt V
    let Q := Ideal.div ((∑ i, x i * d i) * (H * Ideal.div R V)) K
    y + R * (d j - x j * R * Ideal.div (∑ i, d i * (x i * R)) K) = y + d j * R + x j * Q + Q * x j := by
  intro V R Q
  subst hK hE hH
  have hS : (0 : EReal) ≤ ∑ i, x i * x i := Finset.sum_nonneg fun i _ => sq_nonneg' (x i)
  rcases rsqrt_cases hS he hk with ⟨hV, hR⟩ | ⟨v, hv, hV, hR⟩
  · have hR' : R = 0 := hR
    have hV' : V = ⊤ := hV
    have hQ : Q = 0 := by
      simp only [Q, hR', hV', Ideal.div_coe hk.ne']
      simp [Ideal.div]
    rw [hQ, hR']
    simp
  · have hR' : R = (((Real.sqrt v)⁻¹ : ℝ) : EReal) := hR
    have hV' : V = (v : EReal) := hV
    have hs : 0 < Real.sqrt v := Real.sqrt_pos.mpr hv
    have hr : 0 < (Real.sqrt v)⁻¹ := inv_pos.mpr hs
    have hrv : (Real.sqrt v)⁻¹ * (Real.sqrt v)⁻¹ = 1 / v := by
      rw [← mul_inv, Real.mul_self_sqrt hv.le, one_div]
    set r := (Real.sqrt v)⁻¹ with hrdef
    have hT : ∑ i, d i * (x i * R) = (∑ i, x i * d i) * (r : EReal) := by
      rw [← sum_mul_real _ _ hr.le]
      refine Finset.sum_congr rfl fun i _ => ?_
      rw [hR']; ac_rfl
    have hQ : x j * Q = (x j * ∑ i, x i * d i) * ((-((r * r * r * (1 / k)) / 2) : ℝ) : EReal) := by
      simp only [Q]
      rw [hR', hV', Ideal.div_coe hk.ne', Ideal.div_coe hv.ne', ← hrv, mul_assoc, ← EReal.coe_mul, ← EReal.coe_mul,
        ← EReal.coe_mul, mul_assoc]
      rw [← mul_assoc (x j)]
      exact congrArg _ (congrArg _ (by ring))
    rw [hT, mul_comm Q, add_assoc, hQ, halves, hR', Ideal.div_coe hk.ne', sub_eq_add_neg,
      EReal.left_distrib_of_nonneg_of_ne_top (by exact_mod_cast hr.le) (EReal.coe_ne_top r), mul_neg, ← add_assoc,
      mul_comm (d j)]
    congr 2
    push_cast
    ac_rfl

/-- The number of columns the mean divides by. -/
theorem bits_1024 : Ideal.ofBits .f32 0x44800000#32 = ((1024 : ℝ) : EReal) := by
  simp [Ideal.ofBits, Ideal.ieee]
  rw [← EReal.coe_mul]
  norm_num

/-- Minus one half, the derivative's exponent factor. -/
theorem bits_half : Ideal.ofBits .f32 0xBF000000#32 = ((-(1 / 2) : ℝ) : EReal) := by
  simp [Ideal.ofBits, Ideal.ieee]
  rw [← EReal.coe_mul]
  norm_num

/-- The number added under the root is a positive real. -/
theorem bits_eps : ∃ e : ℝ, 0 < e ∧ Ideal.ofBits .f32 0x358637BD#32 = (e : EReal) := by
  refine ⟨_, ?_, by simp [Ideal.ofBits, Ideal.ieee]; rfl⟩
  norm_num

end Cert.RmsLaw
-- ==== Proof.MixInPure.lean ====
module

public import proofs.«01_k».proof.Proof.Gen.Kernel2Ideal.Value
public import proofs.«01_k».proof.Proof.Gen.Reference2Ideal.Read
public import proofs.«01_k».proof.Proof.RmsLaw
public import Idealize.ShloMosaic.Lib.Pipeline.ValueKit
public import Idealize.ShloMosaic.Lib.Pointwise

set_option maxRecDepth 16384

@[expose] public section

noncomputable section

open Idealize.ShloMosaic Idealize.ShloMosaic.TcCoe Idealize.SL.Sem

namespace Cert.MixIn

open Cert.Kernel2Ideal Cert.Kernel2Ideal.Gen

/-- The kernel's projected gradient of one token row at one feature: four products over 512 columns each. -/
theorem proj (z0 z1 zx zg : FVec Ideal S512x512 .bf16) (w0 w1 w2 w3 : FVec Ideal S1x1024x512 .bf16)
    (r : Fin 512) (l : Fin 1024) :
    k0_pay1 (F := Ideal) (k0_pay17 (k0_pay12 z0 w0) z1 w1 zx w2) (k0_pay19 zg) w3 (ix2 r l)
      = (∑ j, (z0 (ix2 r j) * w0 (ix3 0 l j) : EReal)) + (∑ j, z1 (ix2 r j) * w1 (ix3 0 l j))
        + (∑ j, zx (ix2 r j) * w2 (ix3 0 l j)) + (∑ j, zg (ix2 r j) * w3 (ix3 0 l j)) := by
  pointwise [k0_pay1, k0_pay17, k0_pay12, k0_pay19, k0_pay11, k0_pay14, k0_pay16]

/-- The kernel's projected gradient, for tiles read off row `A` of the step's gradient and the columns of the weight:
one product over all 2048 columns. -/
theorem proj_row (z0 z1 zx zg : FVec Ideal S512x512 .bf16) (w0 w1 w2 w3 : FVec Ideal S1x1024x512 .bf16)
    (dz : Fin 2048 → EReal) (w : Fin 1024 → Fin 2048 → EReal) (r : Fin 512)
    (h0 : ∀ j : Fin 512, z0 (ix2 r j) = dz ⟨0 * 512 + j, by omega⟩) (h1 : ∀ j : Fin 512, z1 (ix2 r j) = dz ⟨1 * 512 + j, by omega⟩)
    (hx : ∀ j : Fin 512, zx (ix2 r j) = dz ⟨2 * 512 + j, by omega⟩) (hg : ∀ j : Fin 512, zg (ix2 r j) = dz ⟨3 * 512 + j, by omega⟩)
    (k0 : ∀ l (j : Fin 512), w0 (ix3 0 l j) = w l ⟨0 * 512 + j, by omega⟩) (k1 : ∀ l (j : Fin 512), w1 (ix3 0 l j) = w l ⟨1 * 512 + j, by omega⟩)
    (k2 : ∀ l (j : Fin 512), w2 (ix3 0 l j) = w l ⟨2 * 512 + j, by omega⟩) (k3 : ∀ l (j : Fin 512), w3 (ix3 0 l j) = w l ⟨3 * 512 + j, by omega⟩)
    (l : Fin 1024) :
    k0_pay1 (F := Ideal) (k0_pay17 (k0_pay12 z0 w0) z1 w1 zx w2) (k0_pay19 zg) w3 (ix2 r l) = ∑ j, dz j * w l j := by
  rw [proj, ← Fin.sum_mul_add_fin 4 512 (fun j => dz j * w l j), Fin.sum_univ_four]
  simp only [h0, h1, hx, hg, k0, k1, k2, k3]
  rfl

/-- The kernel's gradient of one token row, from the projected gradient `dh` of that row. -/
theorem dx_pay (x dy : FVec Ideal S512x1024 .f32) (g : FVec Ideal S1x1024 .f32) (v51 : FVec Ideal S512x1024 .f32)
    (zg : FVec Ideal S512x512 .bf16) (w3 : FVec Ideal S1x1024x512 .bf16) (dh : Fin 1024 → EReal) (r : Fin 512)
    (h : ∀ l, k0_pay1 v51 zg w3 (ix2 r l) = dh l) (l : Fin 1024) :
    let R := Ideal.rsqrt (Ideal.div (∑ i, x (ix2 r i) * x (ix2 r i)) (Ideal.ofBits .f32 0x44800000#32) + Ideal.ofBits .f32 0x358637BD#32)
    k0_pay3 (k0_pay7 x) (k0_pay8 x) (k0_pay9 g) v51 zg w3 dy (ix2 r l)
      = dy (ix2 r l) + R * (dh l * g (ix2 0 l) - x (ix2 r l) * R *
          Ideal.div (∑ i, dh i * g (ix2 0 i) * (x (ix2 r i) * R)) (Ideal.ofBits .f32 0x44800000#32)) := by
  intro R
  simp only [← h]
  unfold k0_pay3
  generalize k0_pay1 v51 zg w3 = D
  pointwise [k0_pay7, k0_pay8, k0_pay9]
  rfl

/-- The reference's gradient of one token row. -/
theorem ref_dx (x : FVec Ideal Cert.Reference2Ideal.S8192x1024 .f32) (g : FVec Ideal Cert.Reference2Ideal.S1024 .f32)
    (w : FVec Ideal Cert.Reference2Ideal.S1024x2048 .f32) (dz : FVec Ideal Cert.Reference2Ideal.S8192x2048 .f32)
    (dy : FVec Ideal Cert.Reference2Ideal.S8192x1024 .f32) (a : Fin 8192) (b : Fin 1024) :
    let R := Ideal.rsqrt (Ideal.div (∑ i, x (ix2 a i) * x (ix2 a i)) (Ideal.ofBits .f32 0x44800000#32) + Ideal.ofBits .f32 0x358637BD#32)
    let dh := fun l : Fin 1024 => ∑ j, dz (ix2 a j) * w (ix2 l j)
    Cert.Reference2Ideal.Read.val_main_v40 (F := Ideal) x g w dz dy (ix2 a b)
      = dy (ix2 a b) + R * (dh b * g (ix1 b) - x (ix2 a b) * R *
          Ideal.div (∑ i, dh i * g (ix1 i) * (x (ix2 a i) * R)) (Ideal.ofBits .f32 0x44800000#32)) := by
  intro R dh
  obtain ⟨e, he, hE⟩ := Cert.RmsLaw.bits_eps
  refine Eq.trans ?_ (Cert.RmsLaw.rms_grad (fun i => x (ix2 a i)) (fun i => dh i * g (ix1 i)) b (dy (ix2 a b))
    Cert.RmsLaw.bits_1024 (by norm_num) hE he Cert.RmsLaw.bits_half).symm
  pointwise [Cert.Reference2Ideal.Read.val_main_v0, Cert.Reference2Ideal.Read.val_main_v1, Cert.Reference2Ideal.Read.val_main_v2, Cert.Reference2Ideal.Read.val_main_v3, Cert.Reference2Ideal.Read.val_main_v4, Cert.Reference2Ideal.Read.val_main_v5, Cert.Reference2Ideal.Read.val_main_v6, Cert.Reference2Ideal.Read.val_main_v7, Cert.Reference2Ideal.Read.val_main_v8, Cert.Reference2Ideal.Read.val_main_v9, Cert.Reference2Ideal.Read.val_main_v10, Cert.Reference2Ideal.Read.val_main_v11, Cert.Reference2Ideal.Read.val_main_v12, Cert.Reference2Ideal.Read.val_main_v13, Cert.Reference2Ideal.Read.val_main_v14, Cert.Reference2Ideal.Read.val_main_v15, Cert.Reference2Ideal.Read.val_main_v16, Cert.Reference2Ideal.Read.val_main_v17, Cert.Reference2Ideal.Read.val_main_v18, Cert.Reference2Ideal.Read.val_main_v19, Cert.Reference2Ideal.Read.val_main_v20, Cert.Reference2Ideal.Read.val_main_v21, Cert.Reference2Ideal.Read.val_main_v22, Cert.Reference2Ideal.Read.val_main_v23, Cert.Reference2Ideal.Read.val_main_v24, Cert.Reference2Ideal.Read.val_main_v25, Cert.Reference2Ideal.Read.val_main_v26, Cert.Reference2Ideal.Read.val_main_v27, Cert.Reference2Ideal.Read.val_main_v28, Cert.Reference2Ideal.Read.val_main_v29, Cert.Reference2Ideal.Read.val_main_v30, Cert.Reference2Ideal.Read.val_main_v31, Cert.Reference2Ideal.Read.val_main_v32, Cert.Reference2Ideal.Read.val_main_v33, Cert.Reference2Ideal.Read.val_main_v34, Cert.Reference2Ideal.Read.val_main_v35, Cert.Reference2Ideal.Read.val_main_v36, Cert.Reference2Ideal.Read.val_main_v37, Cert.Reference2Ideal.Read.val_main_v38, Cert.Reference2Ideal.Read.val_main_v39, Cert.Reference2Ideal.Read.val_main_v40, Cert.Reference2Ideal.Read.val_main_cst, Cert.Reference2Ideal.Read.val_main_cst_0, Cert.Reference2Ideal.Read.val_main_cst_1, Cert.Reference2Ideal.Read.val_main_cst_2, Cert.Reference2Ideal.Read.val_main_cst_3, Cert.Reference2Ideal.Read.val_main_cst_4, Cert.Reference2Ideal.Read.val_main_cst_5, Cert.Reference2Ideal.Read.val_main_cst_6, Cert.Reference2Ideal.Read.val_main_cst_7]
  simp only [Finset.univ_unique, Finset.sum_const, Finset.card_singleton, one_smul]
  rfl

/-- The normalised and scaled token, as the kernel keeps it for the weight's gradient. -/
theorem hb_pay (x : FVec Ideal S512x1024 .f32) (g : FVec Ideal S1x1024 .f32) (r : Fin 512) (l : Fin 1024) :
    (k0_pay10 (F := Ideal) x g (ix2 r l) : EReal) = x (ix2 r l) * Ideal.rsqrt (Ideal.div (∑ i, x (ix2 r i) * x (ix2 r i)) (Ideal.ofBits .f32 0x44800000#32)
      + Ideal.ofBits .f32 0x358637BD#32) * g (ix2 0 l) := by
  pointwise [k0_pay7, k0_pay8, k0_pay9, k0_pay10]

/-- One step of the weight gradient's first slice. -/
theorem dw0_pay (x : FVec Ideal S512x1024 .f32) (g : FVec Ideal S1x1024 .f32) (z : FVec Ideal S512x512 .bf16)
    (acc : FVec Ideal S1x1024x512 .f32) (u : Fin 1) (l : Fin 1024) (j : Fin 512) :
    k0_pay13 x g z acc (ix3 u l j) = acc (ix3 0 l j) + ∑ r, (k0_pay10 (F := Ideal) x g (ix2 r l) * z (ix2 r j) : EReal) := by
  unfold k0_pay13
  generalize k0_pay10 (F := Ideal) x g = h
  pointwise [k0_pay11]

/-- One step of the weight gradient's second slice. -/
theorem dw1_pay (h : FVec Ideal S512x1024 .bf16) (z : FVec Ideal S512x512 .bf16)
    (acc : FVec Ideal S1x1024x512 .f32) (u : Fin 1) (l : Fin 1024) (j : Fin 512) :
    k0_pay15 h z acc (ix3 u l j) = acc (ix3 0 l j) + ∑ r, (h (ix2 r l) * z (ix2 r j) : EReal) := by
  pointwise [k0_pay15, k0_pay14]

/-- One step of the weight gradient's third slice. -/
theorem dw2_pay (h : FVec Ideal S512x1024 .bf16) (z : FVec Ideal S512x512 .bf16)
    (acc : FVec Ideal S1x1024x512 .f32) (u : Fin 1) (l : Fin 1024) (j : Fin 512) :
    k0_pay18 h z acc (ix3 u l j) = acc (ix3 0 l j) + ∑ r, (h (ix2 r l) * z (ix2 r j) : EReal) := by
  pointwise [k0_pay18, k0_pay16]

/-- One step of the weight gradient's fourth slice. -/
theorem dw3_pay (h : FVec Ideal S512x1024 .bf16) (z : FVec Ideal S512x512 .bf16)
    (acc : FVec Ideal S1x1024x512 .f32) (u : Fin 1) (l : Fin 1024) (j : Fin 512) :
    k0_pay2 h (k0_pay19 z) acc (ix3 u l j) = acc (ix3 0 l j) + ∑ r, (h (ix2 r l) * z (ix2 r j) : EReal) := by
  pointwise [k0_pay2, k0_pay19]

/-- One step of the gain's gradient, from the projected gradient `dh` of each row of the block. -/
theorem dg_pay (x : FVec Ideal S512x1024 .f32) (v51 : FVec Ideal S512x1024 .f32)
    (zg : FVec Ideal S512x512 .bf16) (w3 : FVec Ideal S1x1024x512 .bf16) (acc : FVec Ideal S1x1024 .f32)
    (dh : Fin 512 → Fin 1024 → EReal) (h : ∀ r l, k0_pay1 v51 zg w3 (ix2 r l) = dh r l) (u : Fin 1) (l : Fin 1024) :
    k0_pay4 (k0_pay8 x) v51 zg w3 acc (ix2 u l) = acc (ix2 u l) + ∑ r, dh r l * (x (ix2 r l) *
      Ideal.rsqrt (Ideal.div (∑ i, x (ix2 r i) * x (ix2 r i)) (Ideal.ofBits .f32 0x44800000#32) + Ideal.ofBits .f32 0x358637BD#32)) := by
  simp only [← h]
  unfold k0_pay4
  generalize k0_pay1 v51 zg w3 = D
  pointwise [k0_pay7, k0_pay8]

/-- The zero fills. -/
theorem zero5 (j : S4x1024x512.Idx) : k0_pay5 (F := Ideal) j = 0 := by pointwise! [k0_pay5]
/-- The zero fills. -/
theorem zero6 (j : S1x1024.Idx) : k0_pay6 (F := Ideal) j = 0 := by pointwise! [k0_pay6]

/-- The reference's gradient of the weight. -/
theorem ref_dw (x : FVec Ideal Cert.Reference2Ideal.S8192x1024 .f32) (g : FVec Ideal Cert.Reference2Ideal.S1024 .f32)
    (w : FVec Ideal Cert.Reference2Ideal.S1024x2048 .f32) (dz : FVec Ideal Cert.Reference2Ideal.S8192x2048 .f32) (a : Fin 4) (b : Fin 1024) (c : Fin 512) :
    Cert.Reference2Ideal.Read.val_main_v42 (F := Ideal) x g dz (ix3 a b c)
      = ∑ t : Fin 8192, (x (ix2 t b) * Ideal.rsqrt (Ideal.div (∑ i, x (ix2 t i) * x (ix2 t i)) (Ideal.ofBits .f32 0x44800000#32) + Ideal.ofBits .f32 0x358637BD#32) * g (ix1 b)) * dz (ix2 t ⟨a.val * 512 + c.val, by omega⟩) := by
  simp only [mul_comm _ (dz _)]
  pointwise [Cert.Reference2Ideal.Read.val_main_v0, Cert.Reference2Ideal.Read.val_main_v1, Cert.Reference2Ideal.Read.val_main_v2, Cert.Reference2Ideal.Read.val_main_v3, Cert.Reference2Ideal.Read.val_main_v4, Cert.Reference2Ideal.Read.val_main_v5, Cert.Reference2Ideal.Read.val_main_v6, Cert.Reference2Ideal.Read.val_main_v7, Cert.Reference2Ideal.Read.val_main_v8, Cert.Reference2Ideal.Read.val_main_v9, Cert.Reference2Ideal.Read.val_main_v10, Cert.Reference2Ideal.Read.val_main_v11, Cert.Reference2Ideal.Read.val_main_v12, Cert.Reference2Ideal.Read.val_main_v13, Cert.Reference2Ideal.Read.val_main_v14, Cert.Reference2Ideal.Read.val_main_v15, Cert.Reference2Ideal.Read.val_main_v16, Cert.Reference2Ideal.Read.val_main_v17, Cert.Reference2Ideal.Read.val_main_v18, Cert.Reference2Ideal.Read.val_main_v19, Cert.Reference2Ideal.Read.val_main_v20, Cert.Reference2Ideal.Read.val_main_v21, Cert.Reference2Ideal.Read.val_main_v22, Cert.Reference2Ideal.Read.val_main_v23, Cert.Reference2Ideal.Read.val_main_v24, Cert.Reference2Ideal.Read.val_main_v25, Cert.Reference2Ideal.Read.val_main_v26, Cert.Reference2Ideal.Read.val_main_v27, Cert.Reference2Ideal.Read.val_main_v28, Cert.Reference2Ideal.Read.val_main_v29, Cert.Reference2Ideal.Read.val_main_v30, Cert.Reference2Ideal.Read.val_main_v31, Cert.Reference2Ideal.Read.val_main_v32, Cert.Reference2Ideal.Read.val_main_v33, Cert.Reference2Ideal.Read.val_main_v34, Cert.Reference2Ideal.Read.val_main_v35, Cert.Reference2Ideal.Read.val_main_v36, Cert.Reference2Ideal.Read.val_main_v37, Cert.Reference2Ideal.Read.val_main_v38, Cert.Reference2Ideal.Read.val_main_v39, Cert.Reference2Ideal.Read.val_main_v40, Cert.Reference2Ideal.Read.val_main_v41, Cert.Reference2Ideal.Read.val_main_v42, Cert.Reference2Ideal.Read.val_main_v43, Cert.Reference2Ideal.Read.val_main_cst, Cert.Reference2Ideal.Read.val_main_cst_0, Cert.Reference2Ideal.Read.val_main_cst_1, Cert.Reference2Ideal.Read.val_main_cst_2, Cert.Reference2Ideal.Read.val_main_cst_3, Cert.Reference2Ideal.Read.val_main_cst_4, Cert.Reference2Ideal.Read.val_main_cst_5, Cert.Reference2Ideal.Read.val_main_cst_6, Cert.Reference2Ideal.Read.val_main_cst_7]

/-- The reference's gradient of the gain. -/
theorem ref_dg (x : FVec Ideal Cert.Reference2Ideal.S8192x1024 .f32) (g : FVec Ideal Cert.Reference2Ideal.S1024 .f32)
    (w : FVec Ideal Cert.Reference2Ideal.S1024x2048 .f32) (dz : FVec Ideal Cert.Reference2Ideal.S8192x2048 .f32) (a : Fin 1) (b : Fin 1024) :
    Cert.Reference2Ideal.Read.val_main_v43 (F := Ideal) x w dz (ix2 a b)
      = ∑ t : Fin 8192, (∑ j, dz (ix2 t j) * w (ix2 b j)) * (x (ix2 t b) * Ideal.rsqrt (Ideal.div (∑ i, x (ix2 t i) * x (ix2 t i)) (Ideal.ofBits .f32 0x44800000#32) + Ideal.ofBits .f32 0x358637BD#32)) := by
  simp only [mul_comm (∑ j, dz (ix2 _ j) * w (ix2 b j))]
  pointwise [Cert.Reference2Ideal.Read.val_main_v0, Cert.Reference2Ideal.Read.val_main_v1, Cert.Reference2Ideal.Read.val_main_v2, Cert.Reference2Ideal.Read.val_main_v3, Cert.Reference2Ideal.Read.val_main_v4, Cert.Reference2Ideal.Read.val_main_v5, Cert.Reference2Ideal.Read.val_main_v6, Cert.Reference2Ideal.Read.val_main_v7, Cert.Reference2Ideal.Read.val_main_v8, Cert.Reference2Ideal.Read.val_main_v9, Cert.Reference2Ideal.Read.val_main_v10, Cert.Reference2Ideal.Read.val_main_v11, Cert.Reference2Ideal.Read.val_main_v12, Cert.Reference2Ideal.Read.val_main_v13, Cert.Reference2Ideal.Read.val_main_v14, Cert.Reference2Ideal.Read.val_main_v15, Cert.Reference2Ideal.Read.val_main_v16, Cert.Reference2Ideal.Read.val_main_v17, Cert.Reference2Ideal.Read.val_main_v18, Cert.Reference2Ideal.Read.val_main_v19, Cert.Reference2Ideal.Read.val_main_v20, Cert.Reference2Ideal.Read.val_main_v21, Cert.Reference2Ideal.Read.val_main_v22, Cert.Reference2Ideal.Read.val_main_v23, Cert.Reference2Ideal.Read.val_main_v24, Cert.Reference2Ideal.Read.val_main_v25, Cert.Reference2Ideal.Read.val_main_v26, Cert.Reference2Ideal.Read.val_main_v27, Cert.Reference2Ideal.Read.val_main_v28, Cert.Reference2Ideal.Read.val_main_v29, Cert.Reference2Ideal.Read.val_main_v30, Cert.Reference2Ideal.Read.val_main_v31, Cert.Reference2Ideal.Read.val_main_v32, Cert.Reference2Ideal.Read.val_main_v33, Cert.Reference2Ideal.Read.val_main_v34, Cert.Reference2Ideal.Read.val_main_v35, Cert.Reference2Ideal.Read.val_main_v36, Cert.Reference2Ideal.Read.val_main_v37, Cert.Reference2Ideal.Read.val_main_v38, Cert.Reference2Ideal.Read.val_main_v39, Cert.Reference2Ideal.Read.val_main_v40, Cert.Reference2Ideal.Read.val_main_v41, Cert.Reference2Ideal.Read.val_main_v42, Cert.Reference2Ideal.Read.val_main_v43, Cert.Reference2Ideal.Read.val_main_cst, Cert.Reference2Ideal.Read.val_main_cst_0, Cert.Reference2Ideal.Read.val_main_cst_1, Cert.Reference2Ideal.Read.val_main_cst_2, Cert.Reference2Ideal.Read.val_main_cst_3, Cert.Reference2Ideal.Read.val_main_cst_4, Cert.Reference2Ideal.Read.val_main_cst_5, Cert.Reference2Ideal.Read.val_main_cst_6, Cert.Reference2Ideal.Read.val_main_cst_7]
  simp only [Finset.univ_unique, Finset.sum_const, Finset.card_singleton, one_smul]

end Cert.MixIn
-- ==== Proof.MixInRead.lean ====
module

public import proofs.«01_k».proof.Proof.MixInPure

set_option maxRecDepth 16384

@[expose] public section

noncomputable section

open Idealize.ShloMosaic Idealize.ShloMosaic.TcCoe Idealize.SL.Sem

namespace Cert.MixIn

open Cert.Kernel2Ideal Cert.Kernel2Ideal.Gen

variable (m : (ℓ : Loc nD τ sig) → Buf (Elt Ideal) ℓ)

/-- The block every window of the input projection's backward pass shows at a grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![0, 0, 0]
    ∧ win0_7.index t = ![t.val, 0]
    ∧ win0_8.index t = ![0, 0, 0]
    ∧ win0_9.index t = ![0, 0] :=
  (by decide +kernel : ∀ t : Fin grid0.N, _)

/-- The token row `r` of block `t` in the whole array. -/
@[reducible] def row (t : Fin cfg0.N) (r : Fin 512) : Fin 8192 := ⟨t.val * 512 + r.val, by have := lt_of_lt_of_eq t.isLt N_0; omega⟩

/-- The first gradient block holds the gradient's columns 0 to 1023. -/
theorem rb0 (c : Dev nD) (t : Fin cfg0.N) (r : Fin 512) (j : Fin 1024) :
    iblk m c 0 t (ix2 r j) = m ((c : Thread nD τ).loc main_arg3) (ix2 (row t r) ⟨j, by omega⟩) := by
  blk_simp [iblk, idx t]
  entry_read
  pointwise
  blk_ext [idx t]

/-- The weight block holds the weight's column slices one after the other. -/
theorem rb6 (c : Dev nD) (t : Fin cfg0.N) (q : Fin 4) (l : Fin 1024) (j : Fin 512) :
    iblk m c 6 t (ix3 q l j) = m ((c : Thread nD τ).loc main_arg2) (ix2 l ⟨q.val * 512 + j, by omega⟩) := by
  blk_simp [iblk, idx t]
  entry_read
  pointwise
  blk_ext [idx t]

/-- The first gradient block's left half holds the gradient's columns 0 to 511. -/
theorem rd0 (c : Dev nD) (t : Fin cfg0.N) (r j : Fin 512) :
    View.ld (iblk m c 0 t) (Rect.unit ![0, 0] ![512, 512] inb_S512x1024_S512x512_0_0) (ix2 r j)
      = m ((c : Thread nD τ).loc main_arg3) (ix2 (row t r) ⟨0 * 512 + j, by omega⟩) := by
  refine Eq.trans ?_ (rb0 m c t r ⟨0 * 512 + j, by omega⟩)
  generalize iblk m c 0 t = X
  pointwise

/-- The first gradient block's right half holds the gradient's columns 512 to 1023. -/
theorem rd1 (c : Dev nD) (t : Fin cfg0.N) (r j : Fin 512) :
    View.ld (iblk m c 0 t) (Rect.unit ![0, 512] ![512, 512] inb_S512x1024_S512x512_0_512) (ix2 r j)
      = m ((c : Thread nD τ).loc main_arg3) (ix2 (row t r) ⟨1 * 512 + j, by omega⟩) := by
  refine Eq.trans ?_ (rb0 m c t r ⟨1 * 512 + j, by omega⟩)
  generalize iblk m c 0 t = X
  pointwise

/-- The second gradient block holds the gradient's columns 1024 to 1535. -/
theorem rd2 (c : Dev nD) (t : Fin cfg0.N) (r j : Fin 512) :
    iblk m c 1 t (ix2 r j) = m ((c : Thread nD τ).loc main_arg3) (ix2 (row t r) ⟨2 * 512 + j, by omega⟩) := by
  blk_simp [iblk, idx t]
  entry_read
  pointwise
  blk_ext [idx t]

/-- The third gradient block holds the gradient's columns 1536 to 2047. -/
theorem rd3 (c : Dev nD) (t : Fin cfg0.N) (r j : Fin 512) :
    iblk m c 2 t (ix2 r j) = m ((c : Thread nD τ).loc main_arg3) (ix2 (row t r) ⟨3 * 512 + j, by omega⟩) := by
  blk_simp [iblk, idx t]
  entry_read
  pointwise
  blk_ext [idx t]

/-- The token block. -/
theorem rdx (c : Dev nD) (t : Fin cfg0.N) (r : Fin 512) (l : Fin 1024) :
    iblk m c 3 t (ix2 r l) = m ((c : Thread nD τ).loc main_arg0) (ix2 (row t r) l) := by
  blk_point [iblk, V, idx t]

/-- The residual's gradient block. -/
theorem rdy (c : Dev nD) (t : Fin cfg0.N) (r : Fin 512) (l : Fin 1024) :
    iblk m c 4 t (ix2 r l) = m ((c : Thread nD τ).loc main_arg4) (ix2 (row t r) l) := by
  blk_point [iblk, V, idx t]

/-- The gain row. -/
theorem rdg (c : Dev nD) (t : Fin cfg0.N) (l : Fin 1024) :
    iblk m c 5 t (ix2 0 l) = m ((c : Thread nD τ).loc main_arg1) (ix1 l) := by
  blk_simp [iblk, idx t]
  entry_read
  pointwise
  blk_ext [idx t]

/-- The weight's first column slice. -/
theorem rdw0 (c : Dev nD) (t : Fin cfg0.N) (l : Fin 1024) (j : Fin 512) :
    View.ld (iblk m c 6 t) (Rect.unit ![0, 0, 0] ![1, 1024, 512] inb_S4x1024x512_S1x1024x512_0_0_0) (ix3 0 l j)
      = m ((c : Thread nD τ).loc main_arg2) (ix2 l ⟨0 * 512 + j, by omega⟩) := by
  refine Eq.trans ?_ (rb6 m c t 0 l j)
  generalize iblk m c 6 t = X
  pointwise

/-- The weight's second column slice. -/
theorem rdw1 (c : Dev nD) (t : Fin cfg0.N) (l : Fin 1024) (j : Fin 512) :
    View.ld (iblk m c 6 t) (Rect.unit ![1, 0, 0] ![1, 1024, 512] inb_S4x1024x512_S1x1024x512_1_0_0) (ix3 0 l j)
      = m ((c : Thread nD τ).loc main_arg2) (ix2 l ⟨1 * 512 + j, by omega⟩) := by
  refine Eq.trans ?_ (rb6 m c t 1 l j)
  generalize iblk m c 6 t = X
  pointwise

/-- The weight's third column slice. -/
theorem rdw2 (c : Dev nD) (t : Fin cfg0.N) (l : Fin 1024) (j : Fin 512) :
    View.ld (iblk m c 6 t) (Rect.unit ![2, 0, 0] ![1, 1024, 512] inb_S4x1024x512_S1x1024x512_2_0_0) (ix3 0 l j)
      = m ((c : Thread nD τ).loc main_arg2) (ix2 l ⟨2 * 512 + j, by omega⟩) := by
  refine Eq.trans ?_ (rb6 m c t 2 l j)
  generalize iblk m c 6 t = X
  pointwise

/-- The weight's fourth column slice. -/
theorem rdw3 (c : Dev nD) (t : Fin cfg0.N) (l : Fin 1024) (j : Fin 512) :
    View.ld (iblk m c 6 t) (Rect.unit ![3, 0, 0] ![1, 1024, 512] inb_S4x1024x512_S1x1024x512_3_0_0) (ix3 0 l j)
      = m ((c : Thread nD τ).loc main_arg2) (ix2 l ⟨3 * 512 + j, by omega⟩) := by
  refine Eq.trans ?_ (rb6 m c t 3 l j)
  generalize iblk m c 6 t = X
  pointwise

end Cert.MixIn
-- ==== Proof.MixInVal.lean ====
module

public import proofs.«01_k».proof.Proof.MixInRead
public import Idealize.ShloMosaic.Lib.Pipeline.ReadBack

set_option maxRecDepth 16384

@[expose] public section

noncomputable section

open Idealize.ShloMosaic Idealize.ShloMosaic.TcCoe Idealize.SL.Sem

namespace Cert.MixIn

open Cert.Kernel2Ideal Cert.Kernel2Ideal.Gen

variable (m : (ℓ : Loc nD τ sig) → Buf (Elt Ideal) ℓ)

/-- The tokens. -/
abbrev X (c : Dev nD) : FVec Ideal S8192x1024 .f32 := m ((c : Thread nD τ).loc main_arg0)
/-- The gain. -/
abbrev G (c : Dev nD) : FVec Ideal S1024 .f32 := m ((c : Thread nD τ).loc main_arg1)
/-- The weight. -/
abbrev W (c : Dev nD) : FVec Ideal S1024x2048 .f32 := m ((c : Thread nD τ).loc main_arg2)
/-- The projection's gradient. -/
abbrev DZ (c : Dev nD) : FVec Ideal S8192x2048 .f32 := m ((c : Thread nD τ).loc main_arg3)
/-- The residual's gradient. -/
abbrev DY (c : Dev nD) : FVec Ideal S8192x1024 .f32 := m ((c : Thread nD τ).loc main_arg4)

/-- The inverse root mean square of a token row. -/
def rinv (x : FVec Ideal S8192x1024 .f32) (a : Fin 8192) : EReal :=
  Ideal.rsqrt (Ideal.div (∑ i, x (ix2 a i) * x (ix2 a i)) (Ideal.ofBits .f32 0x44800000#32) + Ideal.ofBits .f32 0x358637BD#32)

/-- What a grid point adds to the weight's gradient. -/
def dwTerm (c : Dev nD) (t : Fin cfg0.N) (y : S4x1024x512.Idx) : EReal :=
  ∑ r : Fin 512, (X m c (ix2 (row t r) (y 1)) * rinv (X m c) (row t r)
    * G m c (ix1 (y 1)))
    * DZ m c (ix2 (row t r) ⟨(y 0).val * 512 + (y 2).val, by
      have h0 : (y 0).val < 4 := (y 0).isLt
      have h2 : (y 2).val < 512 := (y 2).isLt
      omega⟩)

/-- The projected gradient of row `r` of block `t` at feature `l`. -/
def dhRow (c : Dev nD) (t : Fin cfg0.N) (r : Fin 512) (l : Fin 1024) : EReal :=
  ∑ j, DZ m c (ix2 (row t r) j) * W m c (ix2 l j)

/-- The kernel's four products over the blocks of a grid point make the projected gradient. -/
theorem dh_blk (c : Dev nD) (t : Fin cfg0.N) (r : Fin 512) (l : Fin 1024) :
    k0_pay1 (F := Ideal) (k0_pay17
        (k0_pay12 (View.ld (iblk m c 0 t) (Rect.unit ![0, 0] ![512, 512] inb_S512x1024_S512x512_0_0))
          (View.ld (iblk m c 6 t) (Rect.unit ![0, 0, 0] ![1, 1024, 512] inb_S4x1024x512_S1x1024x512_0_0_0)))
        (View.ld (iblk m c 0 t) (Rect.unit ![0, 512] ![512, 512] inb_S512x1024_S512x512_0_512))
        (View.ld (iblk m c 6 t) (Rect.unit ![1, 0, 0] ![1, 1024, 512] inb_S4x1024x512_S1x1024x512_1_0_0)) (iblk m c 1 t)
        (View.ld (iblk m c 6 t) (Rect.unit ![2, 0, 0] ![1, 1024, 512] inb_S4x1024x512_S1x1024x512_2_0_0)))
      (k0_pay19 (iblk m c 2 t))
      (View.ld (iblk m c 6 t) (Rect.unit ![3, 0, 0] ![1, 1024, 512] inb_S4x1024x512_S1x1024x512_3_0_0)) (ix2 r l)
      = dhRow m c t r l :=
  proj_row _ _ _ _ _ _ _ _ (fun j => DZ m c (ix2 (row t r) j))
    (fun l j => W m c (ix2 l j)) r (rd0 m c t r) (rd1 m c t r) (rd2 m c t r) (rd3 m c t r)
    (rdw0 m c t) (rdw1 m c t) (rdw2 m c t) (rdw3 m c t) l

/-- The reference's token gradient. -/
def RX (c : Dev nD) : FVec Ideal S8192x1024 .f32 :=
  Cert.Reference2Ideal.Read.val_main_v40 (F := Ideal) (X m c) (G m c)
    (W m c) (DZ m c) (DY m c)

/-- The token gradient a grid point leaves is the reference's at those rows. -/
theorem dx_point (c : Dev nD) (t : Fin cfg0.N) (r : Fin 512) (l : Fin 1024) :
    (outsAt0 m c t.val t.isLt).1 (ix2 r l) = RX m c (ix2 (row t r) l) := by
  refine Eq.trans ?_ (ref_dx _ _ _ _ _ (row t r) l).symm
  by_cases h : t.val % 16 = 0
  · rw [outsAt0_A m c t h]; frame_out
    refine (dx_pay _ _ _ _ _ _ (dhRow m c t r) r (dh_blk m c t r) l).trans ?_
    simp only [rdx, rdy, rdg]
    rfl
  · rw [outsAt0_B m c t h]; frame_out
    refine (dx_pay _ _ _ _ _ _ (dhRow m c t r) r (dh_blk m c t r) l).trans ?_
    simp only [rdx, rdy, rdg]
    rfl

/-- The token gradient after the call is the reference's. -/
theorem final7 (c : Dev nD) : (dats m 0 c).arrAt 7 (cfgs 0).N = RX m c := by
  refine (dats m 0 c).arrAt_eq_of_covers 7 _ (by decide +kernel) fun t hf y => ?_
  blk_simp; rw [after0_7]
  idx_vars y
  refine (dx_point m c t _ _).trans ?_
  blk_ext [idx t, row]

/-- An index of rank three is its coordinates. -/
theorem ix3_cases {a b c : ℕ} (y : (⟨3, ![a, b, c]⟩ : Shape).Idx) : ∃ i j k, y = ix3 i j k :=
  ⟨y 0, y 1, y 2, funext fun a => by fin_cases a <;> rfl⟩

/-- Slice 0 of the weight's gradient after one grid point. -/
theorem dw_piece0 (c : Dev nD) (t : Fin cfg0.N) (A : FVec Ideal S4x1024x512 .f32) (y : S4x1024x512.Idx) (x : S1x1024x512.Idx)
    (acc : FVec Ideal S1x1024x512 .f32) (hacc : ∀ l j, acc (ix3 0 l j) = A (ix3 0 l j))
    (h0 : (y 0).val = 0) (h1 : (y 1).val = (x 1).val) (h2 : (y 2).val = (x 2).val) :
    k0_pay13 (F := Ideal) (iblk m c 3 t) (iblk m c 5 t) (View.ld (iblk m c 0 t) (Rect.unit ![0, 0] ![512, 512] inb_S512x1024_S512x512_0_0)) acc x = A y + dwTerm m c t y := by
  obtain ⟨q, l, j, rfl⟩ := ix3_cases y
  obtain ⟨u, l', j', rfl⟩ := ix3_cases x
  obtain rfl : q = 0 := Fin.ext h0
  obtain rfl : l = l' := Fin.ext h1
  obtain rfl : j = j' := Fin.ext h2
  rw [dw0_pay]
  simp only [hacc, hb_pay, rdx, rdg, rd0]
  congr 1

/-- Slice 1 of the weight's gradient after one grid point. -/
theorem dw_piece1 (c : Dev nD) (t : Fin cfg0.N) (A : FVec Ideal S4x1024x512 .f32) (y : S4x1024x512.Idx) (x : S1x1024x512.Idx)
    (acc : FVec Ideal S1x1024x512 .f32) (hacc : ∀ l j, acc (ix3 0 l j) = A (ix3 1 l j))
    (h0 : (y 0).val = 1) (h1 : (y 1).val = (x 1).val) (h2 : (y 2).val = (x 2).val) :
    k0_pay15 (F := Ideal) (k0_pay10 (iblk m c 3 t) (iblk m c 5 t)) (View.ld (iblk m c 0 t) (Rect.unit ![0, 512] ![512, 512] inb_S512x1024_S512x512_0_512)) acc x = A y + dwTerm m c t y := by
  obtain ⟨q, l, j, rfl⟩ := ix3_cases y
  obtain ⟨u, l', j', rfl⟩ := ix3_cases x
  obtain rfl : q = 1 := Fin.ext h0
  obtain rfl : l = l' := Fin.ext h1
  obtain rfl : j = j' := Fin.ext h2
  rw [dw1_pay]
  simp only [hacc, hb_pay, rdx, rdg, rd1]
  congr 1

/-- Slice 2 of the weight's gradient after one grid point. -/
theorem dw_piece2 (c : Dev nD) (t : Fin cfg0.N) (A : FVec Ideal S4x1024x512 .f32) (y : S4x1024x512.Idx) (x : S1x1024x512.Idx)
    (acc : FVec Ideal S1x1024x512 .f32) (hacc : ∀ l j, acc (ix3 0 l j) = A (ix3 2 l j))
    (h0 : (y 0).val = 2) (h1 : (y 1).val = (x 1).val) (h2 : (y 2).val = (x 2).val) :
    k0_pay18 (F := Ideal) (k0_pay10 (iblk m c 3 t) (iblk m c 5 t)) (iblk m c 1 t) acc x = A y + dwTerm m c t y := by
  obtain ⟨q, l, j, rfl⟩ := ix3_cases y
  obtain ⟨u, l', j', rfl⟩ := ix3_cases x
  obtain rfl : q = 2 := Fin.ext h0
  obtain rfl : l = l' := Fin.ext h1
  obtain rfl : j = j' := Fin.ext h2
  rw [dw2_pay]
  simp only [hacc, hb_pay, rdx, rdg, rd2]
  congr 1

/-- Slice 3 of the weight's gradient after one grid point. -/
theorem dw_piece3 (c : Dev nD) (t : Fin cfg0.N) (A : FVec Ideal S4x1024x512 .f32) (y : S4x1024x512.Idx) (x : S1x1024x512.Idx)
    (acc : FVec Ideal S1x1024x512 .f32) (hacc : ∀ l j, acc (ix3 0 l j) = A (ix3 3 l j))
    (h0 : (y 0).val = 3) (h1 : (y 1).val = (x 1).val) (h2 : (y 2).val = (x 2).val) :
    k0_pay2 (F := Ideal) (k0_pay10 (iblk m c 3 t) (iblk m c 5 t)) (k0_pay19 (iblk m c 2 t)) acc x = A y + dwTerm m c t y := by
  obtain ⟨q, l, j, rfl⟩ := ix3_cases y
  obtain ⟨u, l', j', rfl⟩ := ix3_cases x
  obtain rfl : q = 3 := Fin.ext h0
  obtain rfl : l = l' := Fin.ext h1
  obtain rfl : j = j' := Fin.ext h2
  rw [dw3_pay]
  simp only [hacc, hb_pay, rdx, rdg, rd3]
  congr 1

/-- A grid point after the first adds its term to the weight's gradient. -/
theorem dw_step (c : Dev nD) (t : Fin cfg0.N) (h : ¬ t.val % 16 = 0) (y : S4x1024x512.Idx) :
    (outsAt0 m c t.val t.isLt).2.1 y = (outsAt0 m c (t.val - 1) (Nat.lt_of_le_of_lt (Nat.sub_le _ _) t.isLt)).2.1 y + dwTerm m c t y := by
  rw [outsAt0_B m c t h]; frame_out
  generalize (outsAt0 m c (t.val - 1) (Nat.lt_of_le_of_lt (Nat.sub_le _ _) t.isLt)).2.1 = A
  clear h
  canon_tiles x h
  case piece0 => exact dw_piece3 m c t A y x _ (fun l j => by pointwise) (by omega) h1 h2
  case piece1 => exact dw_piece2 m c t A y x _ (fun l j => by pointwise) (by omega) h1 h2
  case piece2 => exact dw_piece1 m c t A y x _ (fun l j => by pointwise) (by omega) h1 h2
  case piece3 => exact dw_piece0 m c t A y x _ (fun l j => by pointwise) (by omega) h1 h2

/-- The first grid point starts the weight's gradient from zero. -/
theorem dw_first (c : Dev nD) (t : Fin cfg0.N) (h : t.val % 16 = 0) (y : S4x1024x512.Idx) :
    (outsAt0 m c t.val t.isLt).2.1 y = 0 + dwTerm m c t y := by
  rw [outsAt0_A m c t h]; frame_out
  simp (disch := decide) only [↓ View.readCov_skip, ↓ View.readCov_cons_toLoadRect, ↓ View.readCov_fill]
  clear h
  refine (View.canon_append_of_piecesOf (fun y => k0_pay5 (F := Ideal) y + dwTerm m c t y) [_] [_, _, _, _]
    ⟨fun x => ?_, fun x => ?_, fun x => ?_, fun x => ?_, trivial⟩ y (View.cover_of_tiled_head _ _ _ (by rfl) y)).trans (by rw [zero5])
  · have hx : (x 0).val < 1 := (x 0).isLt
    refine dw_piece3 m c t _ _ x _ (fun l j => by rw [zero5]; exact zero5 _) ?_ ?_ ?_ <;> simp only [Rect.emb_apply] <;> simp
  · have hx : (x 0).val < 1 := (x 0).isLt
    refine dw_piece2 m c t _ _ x _ (fun l j => by rw [zero5]; exact zero5 _) ?_ ?_ ?_ <;> simp only [Rect.emb_apply] <;> simp
  · have hx : (x 0).val < 1 := (x 0).isLt
    refine dw_piece1 m c t _ _ x _ (fun l j => by rw [zero5]; exact zero5 _) ?_ ?_ ?_ <;> simp only [Rect.emb_apply] <;> simp
  · have hx : (x 0).val < 1 := (x 0).isLt
    refine dw_piece0 m c t _ _ x _ (fun l j => by rw [zero5]; exact zero5 _) ?_ ?_ ?_ <;> simp only [Rect.emb_apply] <;> simp

/-- A grid point after the first adds its rows to the gain's gradient. -/
theorem dg_step (c : Dev nD) (t : Fin cfg0.N) (h : ¬ t.val % 16 = 0) (y : S1x1024.Idx) :
    (outsAt0 m c t.val t.isLt).2.2 y = (outsAt0 m c (t.val - 1) (Nat.lt_of_le_of_lt (Nat.sub_le _ _) t.isLt)).2.2 y
      + ∑ r : Fin 512, dhRow m c t r (y 1) * (X m c (ix2 (row t r) (y 1)) * rinv (X m c) (row t r)) := by
  rw [outsAt0_B m c t h]; frame_out
  idx_vars y
  refine (dg_pay _ _ _ _ _ (dhRow m c t) (dh_blk m c t) _ _).trans ?_
  simp only [rdx]
  rfl

/-- The first grid point starts the gain's gradient from zero. -/
theorem dg_first (c : Dev nD) (t : Fin cfg0.N) (h : t.val % 16 = 0) (y : S1x1024.Idx) :
    (outsAt0 m c t.val t.isLt).2.2 y = 0
      + ∑ r : Fin 512, dhRow m c t r (y 1) * (X m c (ix2 (row t r) (y 1)) * rinv (X m c) (row t r)) := by
  rw [outsAt0_A m c t h]; frame_out
  idx_vars y
  refine (dg_pay _ _ _ _ _ (dhRow m c t) (dh_blk m c t) _ _).trans ?_
  simp only [rdx, zero6]
  rfl

/-- The weight's gradient after the call is the reference's. -/
theorem final8 (c : Dev nD) : (dats m 0 c).arrAt 8 (cfgs 0).N
    = Cert.Reference2Ideal.Read.val_main_v42 (F := Ideal) (X m c) (G m c) (DZ m c) := by
  refine (dats m 0 c).arrAt_eq_of_after_last 8 t0_15 (by decide +kernel) _ fun j => ?_
  blk_simp
  rw [after0_8, Pipeline.eq_sum_fin_of_reset_step_apply_last (fun n h => (outsAt0 m c n h).2.1) 16 (fun _ => 0) (dwTerm m c)
    (dw_first m c) (dw_step m c) (le_of_eq N_0) t0_15 rfl j, zero_add]
  idx_vars j
  refine Eq.trans ?_ (ref_dw _ _ (W m c) _ j0 j1 j2).symm
  exact Fin.sum_mul_add_fin cfg0.N 512 (fun t : Fin 8192 => (X m c (ix2 t j1) * rinv (X m c) t * G m c (ix1 j1))
    * DZ m c (ix2 t ⟨j0.val * 512 + j2.val, by omega⟩)) (by rw [show cfg0.N = 16 from N_0])

/-- The gain's gradient after the call is the reference's. -/
theorem final9 (c : Dev nD) : (dats m 0 c).arrAt 9 (cfgs 0).N
    = Cert.Reference2Ideal.Read.val_main_v43 (F := Ideal) (X m c) (W m c) (DZ m c) := by
  refine (dats m 0 c).arrAt_eq_of_after_last 9 t0_15 (by decide +kernel) _ fun j => ?_
  blk_simp
  rw [after0_9, Pipeline.eq_sum_fin_of_reset_step_apply_last (fun n h => (outsAt0 m c n h).2.2) 16 (fun _ => 0) _
    (dg_first m c) (dg_step m c) (le_of_eq N_0) t0_15 rfl j, zero_add]
  idx_vars j
  refine Eq.trans ?_ (ref_dg _ (G m c) _ _ j0 j1).symm
  exact Fin.sum_mul_add_fin cfg0.N 512 (fun t : Fin 8192 => (∑ j, DZ m c (ix2 t j) * W m c (ix2 j1 j))
    * (X m c (ix2 t j1) * rinv (X m c) t)) (by rw [show cfg0.N = 16 from N_0])

end Cert.MixIn
-- ==== Proof.MixInClaim.lean ====
module

public import proofs.«01_k».proof.Defs
public import proofs.«01_k».proof.Proof.MixInVal
public import proofs.«01_k».proof.Proof.Gen.Kernel2.Frame
public import proofs.«01_k».proof.Proof.Gen.Reference2Ideal.Run
public import Idealize.ShloMosaic.Lib.Claim

set_option maxRecDepth 16384

@[expose] public section

noncomputable section

open Idealize.ShloMosaic Idealize.SL.Sem

namespace Cert.MixIn

/-- The printed call runs, keeps its arguments and ends quiescent. -/
theorem frame_bits : Cert.quiescent_Kernel2 := fun m ρ _ => Cert.Kernel2.Gen.frame m ρ

/-- The idealized call runs, keeps its arguments and ends quiescent. -/
theorem frame_ideal : Cert.quiescent_Kernel2Ideal := fun m ρ _ => Cert.Kernel2Ideal.Gen.frame m ρ

/-- The reference runs, keeps its arguments and ends quiescent: it has host operations only and declares no semaphore. -/
theorem frame_ref : Cert.quiescent_Reference2Ideal := by
  intro m g _
  exact (θ_run Cert.Reference2Ideal.defs _ _).mono (fun r h => ⟨fun c => (h c).2.2.2, sem_eq_zero_of_no_sems (by decide) r.2⟩)
    (Cert.Reference2Ideal.Value.run m g)

set_option maxHeartbeats 1600000 in
/-- The call computes the reference's three gradients. -/
theorem value : Cert.algebraic_Kernel2Ideal_Reference2Ideal := by
  pair_intro
  · run_from Cert.Kernel2Ideal.Gen.run_main m g
  · run_from Cert.Reference2Ideal.Value.run m' g'
    · obtain ⟨h0, h1, h2, h3, h4⟩ := hagree c
      rw [Cert.Reference2Ideal.Read.val_main_v40_eq, h0, h1, h2, h3, h4]
      exact (final7 m c).symm
    · exact (Cert.Reference2Ideal.Read.val_main_v42_eq _ _ _).trans (final8 m c).symm
    · exact (Cert.Reference2Ideal.Read.val_main_v43_eq _ _ _).trans (final9 m c).symm

end Cert.MixIn
-- ==== Proof.MixOutVal.lean ====
module

public import proofs.«01_k».proof.Proof.Gen.Kernel3Ideal.Frame
public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
public import Idealize.ShloMosaic.Lib.Pipeline.ReadBack

set_option maxRecDepth 16384

@[expose] public section

noncomputable section

open Idealize.ShloMosaic Idealize.ShloMosaic.TcCoe Idealize.SL.Sem
open scoped BigOperators

namespace Cert.MixOut

open Cert.Kernel3Ideal Cert.Kernel3Ideal.Gen

variable (m : (ℓ : Loc nD τ sig) → Buf (Elt Ideal) ℓ)

/-- The block every window of the output projection's backward pass shows at a grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![t.val, 0]
    ∧ win0_5.index t = ![0, 0] :=
  (by decide +kernel : ∀ t : Fin grid0.N, _)

/-- The token row `r` of block `t` in the whole array. -/
@[reducible] def row (t : Fin cfg0.N) (r : Fin 512) : Fin 8192 := ⟨t.val * 512 + r.val, by have := lt_of_lt_of_eq t.isLt N_0; omega⟩

/-- The first head group's output. -/
abbrev U (c : Dev nD) : FVec Ideal S8192x512 .f32 := m ((c : Thread nD τ).loc main_arg0)
/-- The second head group's output. -/
abbrev Y (c : Dev nD) : FVec Ideal S8192x512 .f32 := m ((c : Thread nD τ).loc main_arg1)
/-- The projection's weight. -/
abbrev W (c : Dev nD) : FVec Ideal S1024x1024 .f32 := m ((c : Thread nD τ).loc main_arg2)
/-- The gradient arriving at the projection's result. -/
abbrev DY (c : Dev nD) : FVec Ideal S8192x1024 .f32 := m ((c : Thread nD τ).loc main_arg3)

/-- The block of the arriving gradient. -/
theorem rb0 (c : Dev nD) (t : Fin cfg0.N) (r : Fin 512) (l : Fin 1024) : iblk m c 0 t (ix2 r l) = DY m c (ix2 (row t r) l) := by
  blk_point [iblk, V, idx t]

/-- The block of the first head group's output. -/
theorem rb1 (c : Dev nD) (t : Fin cfg0.N) (r l : Fin 512) : iblk m c 1 t (ix2 r l) = U m c (ix2 (row t r) l) := by
  blk_simp [iblk, idx t]
  entry_read
  pointwise
  blk_ext [idx t]

/-- The block of the second head group's output. -/
theorem rb2 (c : Dev nD) (t : Fin cfg0.N) (r l : Fin 512) : iblk m c 2 t (ix2 r l) = Y m c (ix2 (row t r) l) := by
  blk_simp [iblk, idx t]
  entry_read
  pointwise
  blk_ext [idx t]

/-- The whole weight. -/
theorem rb3 (c : Dev nD) (t : Fin cfg0.N) (k l : Fin 1024) : iblk m c 3 t (ix2 k l) = W m c (ix2 k l) := by
  blk_simp [iblk, idx t]
  entry_read
  pointwise
  blk_ext [idx t]

/-- The kernel's gradient of the concatenated head groups. -/
theorem pay4 (dy : FVec Ideal S512x1024 .f32) (w : FVec Ideal S1024x1024 .bf16) (r : Fin 512) (k : Fin 1024) :
    (k0_pay3 (F := Ideal) dy w (ix2 r k) : EReal) = ∑ l : Fin 1024, (dy (ix2 r l) * w (ix2 k l) : EReal) := by
  pointwise [k0_pay3, k0_pay2]

/-- One step of the weight gradient's upper half. -/
theorem pay5u (dy : FVec Ideal S512x1024 .f32) (acc : FVec Ideal S512x1024 .f32) (u : FVec Ideal S512x512 .bf16) (k : Fin 512) (l : Fin 1024) :
    k0_pay4 (F := Ideal) dy acc u (ix2 k l) = acc (ix2 k l) + ∑ r : Fin 512, (u (ix2 r k) * dy (ix2 r l) : EReal) := by
  pointwise [k0_pay4, k0_pay2]

/-- One step of the weight gradient's lower half. -/
theorem pay5y (dy : FVec Ideal S512x1024 .f32) (acc : FVec Ideal S512x1024 .f32) (u : FVec Ideal S512x512 .bf16) (k : Fin 512) (l : Fin 1024) :
    k0_pay5 (F := Ideal) dy acc u (ix2 k l) = acc (ix2 k l) + ∑ r : Fin 512, (u (ix2 r k) * dy (ix2 r l) : EReal) := by
  pointwise [k0_pay5, k0_pay2]

/-- The zeros the weight's gradient starts from. -/
theorem zero5 (y) : k0_pay1 (F := Ideal) y = 0 := by pointwise [k0_pay1]

/-- The reference's gradient of the concatenated head groups. -/
theorem ref4 (w : FVec Ideal Cert.Reference3Ideal.S1024x1024 .f32) (dy : FVec Ideal Cert.Reference3Ideal.S8192x1024 .f32)
    (a : Fin 8192) (k : Fin 1024) :
    Cert.Reference3Ideal.Read.val_main_v4 (F := Ideal) w dy (ix2 a k) = ∑ l : Fin 1024, dy (ix2 a l) * w (ix2 k l) := by
  pointwise [Cert.Reference3Ideal.Read.val_main_v4]

/-- The head groups side by side. -/
def cat (u y : FVec Ideal S8192x512 .f32) (a : Fin 8192) (k : Fin 1024) : EReal :=
  if h : k.val < 512 then u (ix2 a ⟨k.val, h⟩) else y (ix2 a ⟨k.val - 512, by omega⟩)

/-- The reference's gradient of the weight. -/
theorem ref3 (u y : FVec Ideal Cert.Reference3Ideal.S8192x512 .f32) (dy : FVec Ideal Cert.Reference3Ideal.S8192x1024 .f32)
    (k l : Fin 1024) :
    Cert.Reference3Ideal.Read.val_main_v3 (F := Ideal) u y dy (ix2 k l) = ∑ a : Fin 8192, cat u y a k * dy (ix2 a l) := by
  pointwise [Cert.Reference3Ideal.Read.val_main_v3, Cert.Reference3Ideal.Read.val_main_v2, Cert.Reference3Ideal.Read.val_main_v0, cat]
  exact Finset.sum_congr rfl fun a _ => mul_comm _ _

/-- The gradient of the concatenated head groups after the call is the reference's. -/
theorem final4 (c : Dev nD) : (dats m 0 c).arrAt 4 (cfgs 0).N
    = Cert.Reference3Ideal.Read.val_main_v4 (F := Ideal) (W m c) (DY m c) := by
  refine (dats m 0 c).arrAt_eq_of_covers 4 _ (by decide +kernel) fun t hf y => ?_
  blk_simp
  rw [after0_4]
  have key : (outsAt0 m c t.val t.isLt).1 y = k0_pay3 (F := Ideal) (iblk m c 0 t) (iblk m c 3 t) y := by
    by_cases h : t.val % 16 = 0
    · rw [outsAt0_A m c t h]; frame_out
    · rw [outsAt0_B m c t h]; frame_out
  rw [key]
  idx_vars y
  rw [pay4]
  simp only [rb0, rb3]
  refine (ref4 _ _ _ _).symm.trans ?_
  blk_ext [idx t]

/-- What a point adds to the weight's gradient. -/
def term (c : Dev nD) (t : Fin cfg0.N) (y : S1024x1024.Idx) : EReal :=
  ∑ r : Fin 512, cat (U m c) (Y m c) (row t r) (y 0) * DY m c (ix2 (row t r) (y 1))

/-- The upper half of the weight's gradient after one grid point. -/
theorem piece_u (c : Dev nD) (t : Fin cfg0.N) (A : FVec Ideal S1024x1024 .f32) (y : S1024x1024.Idx) (x : S512x1024.Idx)
    (acc : FVec Ideal S512x1024 .f32) (hacc : ∀ k l, acc (ix2 k l) = A (ix2 ⟨k.val, by omega⟩ l))
    (h0 : (y 0).val = (x 0).val) (h1 : (y 1).val = (x 1).val) :
    k0_pay4 (F := Ideal) (iblk m c 0 t) acc (iblk m c 1 t) x = A y + term m c t y := by
  idx_vars x
  idx_vars y
  obtain rfl : y1 = x1 := Fin.ext h1
  have hx : x0.val < 1024 := Nat.lt_trans x0.isLt (by decide)
  obtain rfl : y0 = (⟨x0.val, hx⟩ : Fin 1024) := Fin.ext h0
  rw [pay5u, hacc]
  simp only [rb0, rb1, term]
  congr 1
  refine Finset.sum_congr rfl fun r _ => ?_
  have : cat (U m c) (Y m c) (row t r) (⟨x0.val, by omega⟩ : Fin 1024) = U m c (ix2 (row t r) x0) := dif_pos x0.isLt
  exact congrArg (· * _) this.symm

/-- The lower half of the weight's gradient after one grid point. -/
theorem piece_y (c : Dev nD) (t : Fin cfg0.N) (A : FVec Ideal S1024x1024 .f32) (y : S1024x1024.Idx) (x : S512x1024.Idx)
    (acc : FVec Ideal S512x1024 .f32) (hacc : ∀ k l, acc (ix2 k l) = A (ix2 ⟨512 + k.val, by omega⟩ l))
    (h0 : (y 0).val = 512 + (x 0).val) (h1 : (y 1).val = (x 1).val) :
    k0_pay5 (F := Ideal) (iblk m c 0 t) acc (iblk m c 2 t) x = A y + term m c t y := by
  idx_vars x
  idx_vars y
  obtain rfl : y1 = x1 := Fin.ext h1
  have hx : 512 + x0.val < 1024 := Nat.add_lt_add_left x0.isLt 512
  obtain rfl : y0 = (⟨512 + x0.val, hx⟩ : Fin 1024) := Fin.ext h0
  rw [pay5y, hacc]
  simp only [rb0, rb2, term]
  congr 1
  refine Finset.sum_congr rfl fun r _ => ?_
  have : cat (U m c) (Y m c) (row t r) (⟨512 + x0.val, by omega⟩ : Fin 1024) = Y m c (ix2 (row t r) x0) := by
    refine (dif_neg (by simp)).trans (congrArg (fun q => Y m c (ix2 (row t r) q)) (Fin.ext (by simp)))
  exact congrArg (· * _) this.symm

/-- A grid point after the first adds its term to the weight's gradient. -/
theorem dw_step (c : Dev nD) (t : Fin cfg0.N) (h : ¬ t.val % 16 = 0) (y : S1024x1024.Idx) :
    (outsAt0 m c t.val t.isLt).2 y = (outsAt0 m c (t.val - 1) (Nat.lt_of_le_of_lt (Nat.sub_le _ _) t.isLt)).2 y + term m c t y := by
  rw [outsAt0_B m c t h]; frame_out
  generalize (outsAt0 m c (t.val - 1) (Nat.lt_of_le_of_lt (Nat.sub_le _ _) t.isLt)).2 = A
  clear h
  canon_tiles x h
  case piece0 => exact piece_y m c t A y x _ (fun k l => by pointwise) h0 h1
  case piece1 => exact piece_u m c t A y x _ (fun k l => by pointwise) h0 h1

/-- The first grid point starts the weight's gradient from zero. -/
theorem dw_first (c : Dev nD) (t : Fin cfg0.N) (h : t.val % 16 = 0) (y : S1024x1024.Idx) :
    (outsAt0 m c t.val t.isLt).2 y = 0 + term m c t y := by
  rw [outsAt0_A m c t h]; frame_out
  simp (disch := decide) only [↓ View.readCov_skip, ↓ View.readCov_cons_toLoadRect, ↓ View.readCov_fill]
  clear h
  refine (View.canon_append_of_piecesOf (fun y => k0_pay1 (F := Ideal) y + term m c t y) [_] [_, _]
    ⟨fun x => ?_, fun x => ?_, trivial⟩ y (View.cover_of_tiled_head _ _ _ (by rfl) y)).trans (by rw [zero5])
  · refine piece_y m c t _ _ x _ (fun k l => by rw [zero5]; exact zero5 _) ?_ ?_ <;> simp only [Rect.emb_apply] <;> simp
  · refine piece_u m c t _ _ x _ (fun k l => by rw [zero5]; exact zero5 _) ?_ ?_ <;> simp only [Rect.emb_apply] <;> simp

/-- The weight's gradient after the call is the reference's. -/
theorem final5 (c : Dev nD) : (dats m 0 c).arrAt 5 (cfgs 0).N
    = Cert.Reference3Ideal.Read.val_main_v3 (F := Ideal) (U m c) (Y m c) (DY m c) := by
  refine (dats m 0 c).arrAt_eq_of_after_last 5 t0_15 (by decide +kernel) _ fun j => ?_
  blk_simp
  rw [after0_5, Pipeline.eq_sum_fin_of_reset_step_apply_last (fun n h => (outsAt0 m c n h).2) 16 (fun _ => 0) (term m c)
    (dw_first m c) (dw_step m c) (le_of_eq N_0) t0_15 rfl j, zero_add]
  idx_vars j
  refine Eq.trans ?_ (ref3 _ _ _ j0 j1).symm
  exact Fin.sum_mul_add_fin cfg0.N 512 (fun t : Fin 8192 => cat (U m c) (Y m c) t j0 * DY m c (ix2 t j1))
    (by rw [show cfg0.N = 16 from N_0])

end Cert.MixOut
-- ==== Proof.MixOutClaim.lean ====
module

public import proofs.«01_k».proof.Defs
public import proofs.«01_k».proof.Proof.MixOutVal
public import proofs.«01_k».proof.Proof.Gen.Kernel3.Frame
public import proofs.«01_k».proof.Proof.Gen.Reference3Ideal.Run
public import Idealize.ShloMosaic.Lib.Claim

set_option maxRecDepth 16384

@[expose] public section

noncomputable section

open Idealize.ShloMosaic Idealize.SL.Sem

namespace Cert.MixOut

/-- The printed call runs, keeps its arguments and ends quiescent. -/
theorem frame_bits : Cert.quiescent_Kernel3 := fun m ρ _ => Cert.Kernel3.Gen.frame m ρ

/-- The idealized call runs, keeps its arguments and ends quiescent. -/
theorem frame_ideal : Cert.quiescent_Kernel3Ideal := fun m ρ _ => Cert.Kernel3Ideal.Gen.frame m ρ

/-- The reference runs, keeps its arguments and ends quiescent: it has host operations only and declares no semaphore. -/
theorem frame_ref : Cert.quiescent_Reference3Ideal := by
  intro m g _
  exact (θ_run Cert.Reference3Ideal.defs _ _).mono (fun r h => ⟨fun c => (h c).2.2, sem_eq_zero_of_no_sems (by decide) r.2⟩)
    (Cert.Reference3Ideal.Value.run m g)

set_option maxHeartbeats 1600000 in
/-- The call computes the reference's two gradients. -/
theorem value : Cert.algebraic_Kernel3Ideal_Reference3Ideal := by
  pair_intro
  · run_from Cert.Kernel3Ideal.Gen.run_main m g
  · run_from Cert.Reference3Ideal.Value.run m' g'
    · exact (Cert.Reference3Ideal.Read.val_main_v4_eq _ _).trans (final4 m c).symm
    · exact (Cert.Reference3Ideal.Read.val_main_v3_eq _ _ _).trans (final5 m c).symm

end Cert.MixOut
-- ==== Proof.WGradVal.lean ====
module

public import proofs.«01_k».proof.Proof.Gen.Kernel4Ideal.Frame
public import proofs.«01_k».proof.Proof.Gen.Kernel4Ideal.Value
public import proofs.«01_k».proof.Proof.Gen.Reference4Ideal.Read
public import Idealize.ShloMosaic.Lib.Pipeline.ValueKit
public import Idealize.ShloMosaic.Lib.Pointwise

set_option maxRecDepth 16384

@[expose] public section

noncomputable section

open Idealize.ShloMosaic Idealize.ShloMosaic.TcCoe Idealize.SL.Sem
open scoped BigOperators

namespace Cert.WGrad

open Cert.Kernel4Ideal Cert.Kernel4Ideal.Gen

variable (m : (ℓ : Loc nD τ sig) → Buf (Elt Ideal) ℓ)

/-- The block every window of the weight gradients' call shows at a grid point. -/
theorem idx : ∀ t : Fin cfg0.N, win0_0.index t = ![t.val % 8, 0]
    ∧ win0_1.index t = ![t.val % 8, 0]
    ∧ win0_2.index t = ![t.val / 8, t.val % 8, 0]
    ∧ win0_3.index t = ![t.val / 8, t.val % 8, 0]
    ∧ win0_4.index t = ![t.val / 8, t.val % 8, 0]
    ∧ win0_5.index t = ![0, 0]
    ∧ win0_6.index t = ![t.val / 8, 0, 0]
    ∧ win0_7.index t = ![t.val / 8, 0, 0]
    ∧ win0_8.index t = ![t.val / 8, 0, 0] :=
  (by decide +kernel : ∀ t : Fin grid0.N, _)

/-- The token row `r` of the block shown at point `t`. -/
@[reducible] def row (t : Fin cfg0.N) (r : Fin 1024) : Fin 8192 := ⟨t.val % 8 * 1024 + r.val, by omega⟩

/-- The hidden column `f` of the column block shown at point `t`. -/
@[reducible] def col (t : Fin cfg0.N) (f : Fin 704) : Fin 2816 :=
  ⟨t.val / 8 * 704 + f.val, by have := lt_of_lt_of_eq t.isLt N_0; omega⟩

/-- The activation of the gate's and the up projection's products. -/
abbrev H (c : Dev nD) : FVec Ideal S8192x1024 .f32 := m ((c : Thread nD τ).loc main_arg0)
/-- The activation of the down projection's product. -/
abbrev P (c : Dev nD) : FVec Ideal S8192x2816 .f32 := m ((c : Thread nD τ).loc main_arg1)
/-- The gradient arriving at the gate's product. -/
abbrev DA (c : Dev nD) : FVec Ideal S8192x2816 .f32 := m ((c : Thread nD τ).loc main_arg5)
/-- The gradient arriving at the up projection's product. -/
abbrev DB (c : Dev nD) : FVec Ideal S8192x2816 .f32 := m ((c : Thread nD τ).loc main_arg6)
/-- The gradient arriving at the down projection's product. -/
abbrev DY (c : Dev nD) : FVec Ideal S8192x1024 .f32 := m ((c : Thread nD τ).loc main_arg7)

/-- The block of the gate's and up projection's activation. -/
theorem rb0 (c : Dev nD) (t : Fin cfg0.N) (r l : Fin 1024) : iblk m c 0 t (ix2 r l) = H m c (ix2 (row t r) l) := by
  blk_simp [iblk, idx t]
  entry_read
  pointwise
  blk_ext [idx t]

/-- The block of the gradient arriving at the down projection's product. -/
theorem rb1 (c : Dev nD) (t : Fin cfg0.N) (r l : Fin 1024) : iblk m c 1 t (ix2 r l) = DY m c (ix2 (row t r) l) := by
  blk_simp [iblk, idx t]
  entry_read
  pointwise
  blk_ext [idx t]

/-- The block of the gradient arriving at the gate's product. -/
theorem rb2 (c : Dev nD) (t : Fin cfg0.N) (u : Fin 1) (r : Fin 1024) (f : Fin 704) :
    iblk m c 2 t (ix3 u r f) = DA m c (ix2 (row t r) (col t f)) := by
  blk_simp [iblk, idx t]
  entry_read
  pointwise
  blk_ext [idx t]

/-- The block of the gradient arriving at the up projection's product. -/
theorem rb3 (c : Dev nD) (t : Fin cfg0.N) (u : Fin 1) (r : Fin 1024) (f : Fin 704) :
    iblk m c 3 t (ix3 u r f) = DB m c (ix2 (row t r) (col t f)) := by
  blk_simp [iblk, idx t]
  entry_read
  pointwise
  blk_ext [idx t]

/-- The block of the down projection's activation. -/
theorem rb4 (c : Dev nD) (t : Fin cfg0.N) (u : Fin 1) (r : Fin 1024) (f : Fin 704) :
    iblk m c 4 t (ix3 u r f) = P m c (ix2 (row t r) (col t f)) := by
  blk_simp [iblk, idx t]
  entry_read
  pointwise
  blk_ext [idx t]

/-- One point of the gate's gradient adds the product over its token rows. -/
theorem pay6 (h : FVec Ideal S1024x1024 .bf16) (acc : FVec Ideal S1x704x1024 .f32) (d : FVec Ideal S1x1024x704 .bf16)
    (u : Fin 1) (f : Fin 704) (l : Fin 1024) :
    k0_pay7 (F := Ideal) h acc d (ix3 u f l) = acc (ix3 u f l) + ∑ r : Fin 1024, (d (ix3 0 r f) * h (ix2 r l) : EReal) := by
  obtain rfl : u = 0 := Subsingleton.elim _ _
  pointwise [k0_pay7, k0_pay5]

/-- One point of the up projection's gradient adds the product over its token rows. -/
theorem pay7 (h : FVec Ideal S1024x1024 .bf16) (acc : FVec Ideal S1x704x1024 .f32) (d : FVec Ideal S1x1024x704 .bf16)
    (u : Fin 1) (f : Fin 704) (l : Fin 1024) :
    k0_pay8 (F := Ideal) h acc d (ix3 u f l) = acc (ix3 u f l) + ∑ r : Fin 1024, (d (ix3 0 r f) * h (ix2 r l) : EReal) := by
  obtain rfl : u = 0 := Subsingleton.elim _ _
  pointwise [k0_pay8, k0_pay5]

/-- One point of the down projection's gradient adds the product over its token rows. -/
theorem pay8 (h : FVec Ideal S1024x1024 .bf16) (acc : FVec Ideal S1x704x1024 .f32) (d : FVec Ideal S1x1024x704 .bf16)
    (u : Fin 1) (f : Fin 704) (l : Fin 1024) :
    k0_pay1 (F := Ideal) (k0_pay6 h) acc d (ix3 u f l) = acc (ix3 u f l) + ∑ r : Fin 1024, (d (ix3 0 r f) * h (ix2 r l) : EReal) := by
  obtain rfl : u = 0 := Subsingleton.elim _ _
  pointwise [k0_pay1, k0_pay6]

/-- The zeros the accumulators start from. -/
theorem zero6 (y) : k0_pay2 (F := Ideal) y = 0 := by pointwise [k0_pay2]
theorem zero7 (y) : k0_pay3 (F := Ideal) y = 0 := by pointwise [k0_pay3]
theorem zero8 (y) : k0_pay4 (F := Ideal) y = 0 := by pointwise [k0_pay4]

/-- What a point adds to a weight's gradient. -/
def term (a : Fin 8192 → Fin 2816 → EReal) (b : Fin 8192 → Fin 1024 → EReal) (t : Fin cfg0.N) (y : S1x704x1024.Idx) : EReal :=
  ∑ r : Fin 1024, a (row t r) (col t (y 1)) * b (row t r) (y 2)

/-- Over the eight points that show one block of a weight's gradient, the terms add up to the whole product. -/
theorem run_sum (a : Fin 8192 → Fin 2816 → EReal) (b : Fin 8192 → Fin 1024 → EReal) (t : Fin cfg0.N) (ht : t.val % 8 = 8 - 1)
    (u : Fin 1) (f : Fin 704) (l : Fin 1024) :
    ∑ s : Fin 8, term a b ⟨8 * (t.val / 8) + s.val, Pipeline.run_point_lt_of_flush t ht s⟩ (ix3 u f l)
      = ∑ r : Fin 8192, a r (col t f) * b r l := by
  refine Fin.sum_mul_add_congr fun s k hl => ?_
  have hr : row ⟨8 * (t.val / 8) + s.val, Pipeline.run_point_lt_of_flush t ht s⟩ k = ⟨s.val * 1024 + k.val, hl⟩ :=
    Fin.ext (by have := s.isLt; simp only; omega)
  have hc : col ⟨8 * (t.val / 8) + s.val, Pipeline.run_point_lt_of_flush t ht s⟩ f = col t f :=
    Fin.ext (by have := s.isLt; simp only; omega)
  rw [← hr]
  exact congrArg (fun q => a _ q * b _ l) hc

/-- The reference's gradient of the gate's weight. -/
theorem ref10 (h : FVec Ideal Cert.Reference4Ideal.S8192x1024 .f32) (d : FVec Ideal Cert.Reference4Ideal.S8192x2816 .f32)
    (q : Fin 4) (f : Fin 704) (l : Fin 1024) :
    Cert.Reference4Ideal.Read.val_main_v10 (F := Ideal) h d (ix3 q f l)
      = ∑ r : Fin 8192, d (ix2 r ⟨q.val * 704 + f, by omega⟩) * h (ix2 r l) := by
  pointwise [Cert.Reference4Ideal.Read.val_main_v10, Cert.Reference4Ideal.Read.val_main_v9,
    Cert.Reference4Ideal.Read.val_main_v8, Cert.Reference4Ideal.Read.val_main_v7]

/-- The reference's gradient of the up projection's weight. -/
theorem ref12 (h : FVec Ideal Cert.Reference4Ideal.S8192x1024 .f32) (d : FVec Ideal Cert.Reference4Ideal.S8192x2816 .f32)
    (q : Fin 4) (f : Fin 704) (l : Fin 1024) :
    Cert.Reference4Ideal.Read.val_main_v12 (F := Ideal) h d (ix3 q f l)
      = ∑ r : Fin 8192, d (ix2 r ⟨q.val * 704 + f, by omega⟩) * h (ix2 r l) := by
  pointwise [Cert.Reference4Ideal.Read.val_main_v12, Cert.Reference4Ideal.Read.val_main_v11,
    Cert.Reference4Ideal.Read.val_main_v6, Cert.Reference4Ideal.Read.val_main_v5]

/-- The reference's gradient of the down projection's weight. -/
theorem ref13 (p : FVec Ideal Cert.Reference4Ideal.S8192x2816 .f32) (dy : FVec Ideal Cert.Reference4Ideal.S8192x1024 .f32)
    (q : Fin 4) (f : Fin 704) (l : Fin 1024) :
    Cert.Reference4Ideal.Read.val_main_v13 (F := Ideal) p dy (ix3 q f l)
      = ∑ r : Fin 8192, p (ix2 r ⟨q.val * 704 + f, by omega⟩) * dy (ix2 r l) := by
  pointwise [Cert.Reference4Ideal.Read.val_main_v13, Cert.Reference4Ideal.Read.val_main_v4,
    Cert.Reference4Ideal.Read.val_main_v3]
  exact Finset.sum_congr rfl fun _ _ => mul_comm _ _

/-- The gate's weight gradient after the call is the reference's. -/
theorem final6 (c : Dev nD) : (dats m 0 c).arrAt 6 (cfgs 0).N
    = Cert.Reference4Ideal.Read.val_main_v10 (F := Ideal) (H m c) (DA m c) := by
  refine (dats m 0 c).arrAt_eq_of_covers 6 _ (by decide +kernel) fun t hf y => ?_
  blk_simp
  rw [after0_6, Pipeline.eq_sum_fin_of_reset_step_apply_of_flush (fun n h => (outsAt0 m c n h).1) 8 (fun _ => 0)
    (term (fun r q => DA m c (ix2 r q)) (fun r l => H m c (ix2 r l)))
    (fun t h y => by rw [outsAt0_A m c t h]; frame_out; idx_vars y; rw [pay6, zero6]; simp only [rb0, rb2]; rfl)
    (fun t h y => by rw [outsAt0_B m c t h]; frame_out; idx_vars y; rw [pay6]; simp only [rb0, rb2]; rfl)
    t ((flush0_6 t).mp hf) _, zero_add]
  idx_vars y
  refine (run_sum _ _ t ((flush0_6 t).mp hf) _ _ _).trans ((ref10 _ _ ⟨t.val / 8, by have := lt_of_lt_of_eq t.isLt N_0; omega⟩ _ _).symm.trans ?_)
  blk_ext [idx t]

/-- The up projection's weight gradient after the call is the reference's. -/
theorem final7 (c : Dev nD) : (dats m 0 c).arrAt 7 (cfgs 0).N
    = Cert.Reference4Ideal.Read.val_main_v12 (F := Ideal) (H m c) (DB m c) := by
  refine (dats m 0 c).arrAt_eq_of_covers 7 _ (by decide +kernel) fun t hf y => ?_
  blk_simp
  rw [after0_7, Pipeline.eq_sum_fin_of_reset_step_apply_of_flush (fun n h => (outsAt0 m c n h).2.1) 8 (fun _ => 0)
    (term (fun r q => DB m c (ix2 r q)) (fun r l => H m c (ix2 r l)))
    (fun t h y => by rw [outsAt0_A m c t h]; frame_out; idx_vars y; rw [pay7, zero7]; simp only [rb0, rb3]; rfl)
    (fun t h y => by rw [outsAt0_B m c t h]; frame_out; idx_vars y; rw [pay7]; simp only [rb0, rb3]; rfl)
    t ((flush0_7 t).mp hf) _, zero_add]
  idx_vars y
  refine (run_sum _ _ t ((flush0_7 t).mp hf) _ _ _).trans ((ref12 _ _ ⟨t.val / 8, by have := lt_of_lt_of_eq t.isLt N_0; omega⟩ _ _).symm.trans ?_)
  blk_ext [idx t]

/-- The down projection's weight gradient after the call is the reference's. -/
theorem final8 (c : Dev nD) : (dats m 0 c).arrAt 8 (cfgs 0).N
    = Cert.Reference4Ideal.Read.val_main_v13 (F := Ideal) (P m c) (DY m c) := by
  refine (dats m 0 c).arrAt_eq_of_covers 8 _ (by decide +kernel) fun t hf y => ?_
  blk_simp
  rw [after0_8, Pipeline.eq_sum_fin_of_reset_step_apply_of_flush (fun n h => (outsAt0 m c n h).2.2) 8 (fun _ => 0)
    (term (fun r q => P m c (ix2 r q)) (fun r l => DY m c (ix2 r l)))
    (fun t h y => by rw [outsAt0_A m c t h]; frame_out; idx_vars y; rw [pay8, zero8]; simp only [rb1, rb4]; rfl)
    (fun t h y => by rw [outsAt0_B m c t h]; frame_out; idx_vars y; rw [pay8]; simp only [rb1, rb4]; rfl)
    t ((flush0_8 t).mp hf) _, zero_add]
  idx_vars y
  refine (run_sum _ _ t ((flush0_8 t).mp hf) _ _ _).trans ((ref13 _ _ ⟨t.val / 8, by have := lt_of_lt_of_eq t.isLt N_0; omega⟩ _ _).symm.trans ?_)
  blk_ext [idx t]

end Cert.WGrad
-- ==== Proof.WGradClaim.lean ====
module

public import proofs.«01_k».proof.Defs
public import proofs.«01_k».proof.Proof.WGradVal
public import proofs.«01_k».proof.Proof.Gen.Kernel4.Frame
public import proofs.«01_k».proof.Proof.Gen.Reference4Ideal.Run
public import Idealize.ShloMosaic.Lib.Claim

set_option maxRecDepth 16384

@[expose] public section

noncomputable section

open Idealize.ShloMosaic Idealize.SL.Sem

namespace Cert.WGrad

/-- The printed call runs, keeps its arguments and ends quiescent. -/
theorem frame_bits : Cert.quiescent_Kernel4 := fun m ρ _ => Cert.Kernel4.Gen.frame m ρ

/-- The idealized call runs, keeps its arguments and ends quiescent. -/
theorem frame_ideal : Cert.quiescent_Kernel4Ideal := fun m ρ _ => Cert.Kernel4Ideal.Gen.frame m ρ

/-- The reference runs, keeps its arguments and ends quiescent: it has host operations only and declares no semaphore. -/
theorem frame_ref : Cert.quiescent_Reference4Ideal := by
  intro m g _
  exact (θ_run Cert.Reference4Ideal.defs _ _).mono (fun r h => ⟨fun c => (h c).2.2.2, sem_eq_zero_of_no_sems (by decide) r.2⟩)
    (Cert.Reference4Ideal.Value.run m g)

set_option maxHeartbeats 1600000 in
/-- The call computes the reference's three gradients. -/
theorem value : Cert.algebraic_Kernel4Ideal_Reference4Ideal := by
  pair_intro
  · run_from Cert.Kernel4Ideal.Gen.run_main m g
  · run_from Cert.Reference4Ideal.Value.run m' g'
    · exact (Cert.Reference4Ideal.Read.val_main_v10_eq _ _).trans (final6 m c).symm
    · exact (Cert.Reference4Ideal.Read.val_main_v12_eq _ _).trans (final7 m c).symm
    · exact (Cert.Reference4Ideal.Read.val_main_v13_eq _ _).trans (final8 m c).symm

end Cert.WGrad
-- ==== Proof.FfnMath.lean ====
module

public import Idealize.ShloMosaic.Lib.Pointwise

set_option maxRecDepth 16384

@[expose] public section

noncomputable section

open Idealize.ShloMosaic

namespace Cert.FfnMath

/-- The inverse root mean square of a token. -/
def rinv (x : Fin 1024 → EReal) : EReal :=
  Ideal.rsqrt (Ideal.div (∑ i, x i * x i) (Ideal.ofBits .f32 0x44800000#32) + Ideal.ofBits .f32 0x358637BD#32)

/-- The normalised and scaled token. -/
def hid (x g : Fin 1024 → EReal) (l : Fin 1024) : EReal := x l * rinv x * g l

/-- A token against one column of a weight. -/
def proj (h w : Fin 1024 → EReal) : EReal := ∑ l, h l * w l

/-- The gated product of the two projections. -/
def gate (a b : EReal) : EReal := a * Ideal.logistic a * b

/-- The residual sum's error against the target after the last normalisation. -/
def err (y g t : Fin 1024 → EReal) (l : Fin 1024) : EReal := y l * rinv y * g l - t l

/-- The error's gradient, one token's mean taken. -/
def derr (y g t : Fin 1024 → EReal) (l : Fin 1024) : EReal := err y g t l * Ideal.ofBits .f32 0x3A800000#32

/-- A token's mean squared error. -/
def tokLoss (y g t : Fin 1024 → EReal) : EReal :=
  Ideal.div (∑ l, err y g t l * err y g t l) (Ideal.ofBits .f32 0x44800000#32)

/-- A token's part of the last normalisation's scale gradient. -/
def tokGain (y g t : Fin 1024 → EReal) (l : Fin 1024) : EReal := derr y g t l * (y l * rinv y)

/-- The loss's gradient at a token. -/
def tokGrad (y g t : Fin 1024 → EReal) (l : Fin 1024) : EReal :=
  rinv y * (derr y g t l * g l - y l * rinv y *
    Ideal.div (∑ i, derr y g t i * g i * (y i * rinv y)) (Ideal.ofBits .f32 0x44800000#32))

end Cert.FfnMath
-- ==== Proof.Ffn1Pure.lean ====
module

public import proofs.«01_k».proof.Proof.Gen.Kernel5Ideal.Skeleton
public import proofs.«01_k».proof.Proof.Gen.Reference5Ideal.Read
public import proofs.«01_k».proof.Proof.FfnMath

set_option maxRecDepth 16384

@[expose] public section

noncomputable section

open Idealize.ShloMosaic Idealize.ShloMosaic.TcCoe Idealize.SL.Sem

namespace Cert.Ffn1

open Cert.Kernel5Ideal Cert.Kernel5Ideal.Gen Cert.FfnMath

/-- The normalised tokens of a block. -/
theorem hpay (x : FVec Ideal S1024x1024 .f32) (g : FVec Ideal S1x1024 .f32) (r l : Fin 1024) :
    (k0_pay2 (F := Ideal) x g (ix2 r l) : EReal) = hid (fun k => x (ix2 r k)) (fun k => g (ix2 0 k)) l := by
  pointwise [k0_pay2]
  rfl

/-- The accumulator starts at zero. -/
theorem zpay (r l : Fin 1024) : (k0_pay3 (F := Ideal) (ix2 r l) : EReal) = 0 := by
  pointwise [k0_pay3]

/-- A chunk's projection as it is stored. -/
theorem apay (h : FVec Ideal S256x1024 .bf16) (w : FVec Ideal S1x1x704x1024 .bf16) (u : Fin 1) (r : Fin 256) (f : Fin 704) :
    (k0_pay6 (F := Ideal) h w (ix3 u r f) : EReal) = proj (fun k => h (ix2 r k)) (fun k => w (ix4 0 0 f k)) := by
  pointwise [k0_pay6, k0_pay4]
  rfl

/-- A chunk's part of the product out, added to what was accumulated. -/
theorem ppay (h : FVec Ideal S256x1024 .bf16) (wg wu wd : FVec Ideal S1x1x704x1024 .bf16) (v : FVec Ideal S256x1024 .f32)
    (r : Fin 256) (l : Fin 1024) :
    (k0_pay9 (F := Ideal) (k0_pay8 h wg wu v wd) (ix2 r l) : EReal)
      = v (ix2 r l) + ∑ f : Fin 704, gate (proj (fun k => h (ix2 r k)) (fun k => wg (ix4 0 0 f k)))
          (proj (fun k => h (ix2 r k)) (fun k => wu (ix4 0 0 f k))) * wd (ix4 0 0 f l) := by
  pointwise [k0_pay9, k0_pay8, k0_pay4, k0_pay5]
  rfl

/-- The residual sum. -/
theorem ypay (x v : FVec Ideal S1024x1024 .f32) (r l : Fin 1024) :
    (k0_pay1 (F := Ideal) x v (ix2 r l) : EReal) = x (ix2 r l) + Ideal.ofBits .f32 0x3F000000#32 * v (ix2 r l) := by
  pointwise [k0_pay1]

/-- The reference's projection in. -/
theorem ref13 (x : FVec Ideal Cert.Reference5Ideal.S8192x1024 .f32) (g : FVec Ideal Cert.Reference5Ideal.S1024 .f32)
    (w : FVec Ideal Cert.Reference5Ideal.S1024x2816 .f32) (a : Fin 8192) (k : Fin 2816) :
    Cert.Reference5Ideal.Read.val_main_v13 (F := Ideal) x g w (ix2 a k)
      = proj (hid (fun l => x (ix2 a l)) (fun l => g (ix1 l))) (fun l => w (ix2 l k)) := by
  pointwise [Cert.Reference5Ideal.Read.val_main_v13, Cert.Reference5Ideal.Read.val_main_v12, Cert.Reference5Ideal.Read.val_main_v11, Cert.Reference5Ideal.Read.val_main_v10, Cert.Reference5Ideal.Read.val_main_v9, Cert.Reference5Ideal.Read.val_main_v8, Cert.Reference5Ideal.Read.val_main_v7, Cert.Reference5Ideal.Read.val_main_v6, Cert.Reference5Ideal.Read.val_main_v5, Cert.Reference5Ideal.Read.val_main_v4, Cert.Reference5Ideal.Read.val_main_v3, Cert.Reference5Ideal.Read.val_main_v2, Cert.Reference5Ideal.Read.val_main_v1, Cert.Reference5Ideal.Read.val_main_v0, Cert.Reference5Ideal.Read.val_main_cst, Cert.Reference5Ideal.Read.val_main_cst_0, Cert.Reference5Ideal.Read.val_main_cst_1]
  rfl

/-- Both projections of the reference are one function of the weight. -/
theorem ref14 : @Cert.Reference5Ideal.Read.val_main_v14 Ideal _ = Cert.Reference5Ideal.Read.val_main_v13 := rfl

/-- The reference's projection as it is returned. -/
theorem ref23 (x : FVec Ideal Cert.Reference5Ideal.S8192x1024 .f32) (g : FVec Ideal Cert.Reference5Ideal.S1024 .f32)
    (w : FVec Ideal Cert.Reference5Ideal.S1024x2816 .f32) (j : Fin 4) (a : Fin 8192) (f : Fin 704) :
    Cert.Reference5Ideal.Read.val_main_v23 (F := Ideal) x g w (ix3 j a f)
      = proj (hid (fun l => x (ix2 a l)) (fun l => g (ix1 l))) (fun l => w (ix2 l ⟨j.val * 704 + f, by omega⟩)) := by
  rw [← ref13]
  pointwise [Cert.Reference5Ideal.Read.val_main_v23, Cert.Reference5Ideal.Read.val_main_v22, Cert.Reference5Ideal.Read.val_main_v21]
  done

/-- The other likewise. -/
theorem ref26 : @Cert.Reference5Ideal.Read.val_main_v26 Ideal _ = Cert.Reference5Ideal.Read.val_main_v23 := rfl

/-- The reference's half. -/
theorem ref20 (x : FVec Ideal Cert.Reference5Ideal.S8192x1024 .f32) (g : FVec Ideal Cert.Reference5Ideal.S1024 .f32)
    (wg wu : FVec Ideal Cert.Reference5Ideal.S1024x2816 .f32) (wd : FVec Ideal Cert.Reference5Ideal.S2816x1024 .f32) (a : Fin 8192) (l : Fin 1024) :
    Cert.Reference5Ideal.Read.val_main_v20 (F := Ideal) x g wg wu wd (ix2 a l)
      = x (ix2 a l) + Ideal.ofBits .f32 0x3F000000#32 * ∑ k : Fin 2816,
          gate (proj (hid (fun l => x (ix2 a l)) (fun l => g (ix1 l))) (fun l => wg (ix2 l k)))
            (proj (hid (fun l => x (ix2 a l)) (fun l => g (ix1 l))) (fun l => wu (ix2 l k))) * wd (ix2 k l) := by
  simp only [← ref13]
  pointwise [Cert.Reference5Ideal.Read.val_main_v20, Cert.Reference5Ideal.Read.val_main_v19, Cert.Reference5Ideal.Read.val_main_v18, Cert.Reference5Ideal.Read.val_main_cst_2, Cert.Reference5Ideal.Read.val_main_v17, Cert.Reference5Ideal.Read.val_main_v16, Cert.Reference5Ideal.Read.val_main_v15, Cert.Reference5Ideal.Read.val_main_call0_v5, Cert.Reference5Ideal.Read.val_main_call0_v4, Cert.Reference5Ideal.Read.val_main_call0_v3, Cert.Reference5Ideal.Read.val_main_call0_v2, Cert.Reference5Ideal.Read.val_main_call0_v1, Cert.Reference5Ideal.Read.val_main_call0_v0, Cert.Reference5Ideal.Read.val_main_call0_cst, Cert.Reference5Ideal.Read.val_main_call0_cst_0]
  rfl

end Cert.Ffn1
-- ==== Proof.Ffn1Val.lean ====
module

public import proofs.«01_k».proof.Proof.Gen.Kernel5Ideal.Value
public import proofs.«01_k».proof.Proof.Ffn1Pure
public import Idealize.ShloMosaic.Lib.Pipeline.ValueKit
public import Idealize.ShloMosaic.Lib.Pipeline.ReadBack

set_option maxRecDepth 16384

@[expose] public section

noncomputable section

open Idealize.ShloMosaic Idealize.ShloMosaic.TcCoe Idealize.SL.Sem

namespace Cert.Ffn1

open Cert.Kernel5Ideal Cert.Kernel5Ideal.Gen Cert.FfnMath

variable (m : (ℓ : Loc nD τ sig) → Buf (Elt Ideal) ℓ)

/-- The tokens. -/
abbrev X (c : Dev nD) : FVec Ideal S8192x1024 .f32 := m ((c : Thread nD τ).loc main_arg0)
/-- The gain. -/
abbrev G (c : Dev nD) : FVec Ideal S1024 .f32 := m ((c : Thread nD τ).loc main_arg1)
/-- The gate's weight. -/
abbrev WG (c : Dev nD) : FVec Ideal S1024x2816 .f32 := m ((c : Thread nD τ).loc main_arg2)
/-- The up projection's weight. -/
abbrev WU (c : Dev nD) : FVec Ideal S1024x2816 .f32 := m ((c : Thread nD τ).loc main_arg3)
/-- The down projection's weight. -/
abbrev WD (c : Dev nD) : FVec Ideal S2816x1024 .f32 := m ((c : Thread nD τ).loc main_arg4)

/-- The block every window shows at a grid point. -/
theorem idx : ∀ t : Fin cfg0.N, win0_0.index t = ![t.val / 4, 0]
    ∧ win0_1.index t = ![0, 0]
    ∧ win0_2.index t = ![0, t.val % 4, 0, 0]
    ∧ win0_3.index t = ![1, t.val % 4, 0, 0]
    ∧ win0_4.index t = ![2, t.val % 4, 0, 0]
    ∧ win0_5.index t = ![t.val / 4, 0]
    ∧ win0_6.index t = ![t.val % 4, t.val / 4, 0]
    ∧ win0_7.index t = ![t.val % 4, t.val / 4, 0] :=
  (by decide +kernel : ∀ t : Fin grid0.N, _)

/-- The token row `r` of a grid point's block in the whole array. -/
@[reducible] def row (t : Fin cfg0.N) (r : Fin 1024) : Fin 8192 :=
  ⟨t.val / 4 * 1024 + r.val, by have := lt_of_lt_of_eq t.isLt (show cfg0.N = 32 from N_0); omega⟩
/-- The hidden column `f` of a grid point's block in the whole array. -/
@[reducible] def col (t : Fin cfg0.N) (f : Fin 704) : Fin 2816 := ⟨t.val % 4 * 704 + f.val, by omega⟩

/-- The tokens' block. -/
theorem rb0 (c : Dev nD) (t : Fin cfg0.N) (r l : Fin 1024) : iblk m c 0 t (ix2 r l) = X m c (ix2 (row t r) l) := by
  blk_simp [iblk, idx t]
  entry_read
  blk_ext [idx t]

/-- The gain's block. -/
theorem rb1 (c : Dev nD) (t : Fin cfg0.N) (u : Fin 1) (l : Fin 1024) : iblk m c 1 t (ix2 u l) = G m c (ix1 l) := by
  blk_simp [iblk, idx t]
  entry_read
  pointwise
  blk_ext [idx t]

/-- The host's weights: the three matrices in four blocks of hidden columns, one matrix after the other. -/
def stack (wg wu : FVec Ideal S1024x2816 .f32) (wd : FVec Ideal S2816x1024 .f32) : FVec Ideal S3x4x704x1024 .bf16 :=
  truncf .bf16 (concatenate S3x4x704x1024 0
    [⟨S1x4x704x1024, broadcastInDim S1x4x704x1024 ![1, 2, 3] bcast_S4x704x1024_S1x4x704x1024_1_2_3 (shapeCast S4x704x1024 (transpose S2816x1024 [1, 0] wg transposes_S1024x2816_S2816x1024_1_0) shapeCasts_S2816x1024_S4x704x1024)⟩,
     ⟨S1x4x704x1024, broadcastInDim S1x4x704x1024 ![1, 2, 3] bcast_S4x704x1024_S1x4x704x1024_1_2_3 (shapeCast S4x704x1024 (transpose S2816x1024 [1, 0] wu transposes_S1024x2816_S2816x1024_1_0) shapeCasts_S2816x1024_S4x704x1024)⟩,
     ⟨S1x4x704x1024, broadcastInDim S1x4x704x1024 ![1, 2, 3] bcast_S4x704x1024_S1x4x704x1024_1_2_3 (shapeCast S4x704x1024 wd shapeCasts_S2816x1024_S4x704x1024)⟩]
    concatenates_S1x4x704x1024_S1x4x704x1024_S1x4x704x1024_S3x4x704x1024_d0) bitsLt_bf16_f32

/-- What the host hands to the call. -/
theorem v10 (c : Dev nD) : V m c main_v10 = stack (WG m c) (WU m c) (WD m c) := by
  rfl

/-- The first matrix is the gate's. -/
theorem stack0 (wg wu : FVec Ideal S1024x2816 .f32) (wd : FVec Ideal S2816x1024 .f32) (j : Fin 4) (f : Fin 704) (l : Fin 1024) :
    stack wg wu wd (ix4 0 j f l) = wg (ix2 l ⟨j.val * 704 + f, by omega⟩) := by
  pointwise [stack]

/-- The second is the up projection's. -/
theorem stack1 (wg wu : FVec Ideal S1024x2816 .f32) (wd : FVec Ideal S2816x1024 .f32) (j : Fin 4) (f : Fin 704) (l : Fin 1024) :
    stack wg wu wd (ix4 1 j f l) = wu (ix2 l ⟨j.val * 704 + f, by omega⟩) := by
  pointwise [stack]

/-- The third is the down projection's. -/
theorem stack2 (wg wu : FVec Ideal S1024x2816 .f32) (wd : FVec Ideal S2816x1024 .f32) (j : Fin 4) (f : Fin 704) (l : Fin 1024) :
    stack wg wu wd (ix4 2 j f l) = wd (ix2 ⟨j.val * 704 + f, by omega⟩ l) := by
  pointwise [stack]

/-- The gate's block. -/
theorem rb2 (c : Dev nD) (t : Fin cfg0.N) (f : Fin 704) (l : Fin 1024) :
    iblk m c 2 t (ix4 0 0 f l) = WG m c (ix2 l (col t f)) := by
  refine Eq.trans ?_ (stack0 (WG m c) (WU m c) (WD m c) ⟨t.val % 4, by omega⟩ f l)
  blk_simp [iblk, idx t]
  rw [v10]
  blk_ext [idx t]

/-- The up projection's block. -/
theorem rb3 (c : Dev nD) (t : Fin cfg0.N) (f : Fin 704) (l : Fin 1024) :
    iblk m c 3 t (ix4 0 0 f l) = WU m c (ix2 l (col t f)) := by
  refine Eq.trans ?_ (stack1 (WG m c) (WU m c) (WD m c) ⟨t.val % 4, by omega⟩ f l)
  blk_simp [iblk, idx t]
  rw [v10]
  blk_ext [idx t]

/-- The down projection's block. -/
theorem rb4 (c : Dev nD) (t : Fin cfg0.N) (f : Fin 704) (l : Fin 1024) :
    iblk m c 4 t (ix4 0 0 f l) = WD m c (ix2 (col t f) l) := by
  refine Eq.trans ?_ (stack2 (WG m c) (WU m c) (WD m c) ⟨t.val % 4, by omega⟩ f l)
  blk_simp [iblk, idx t]
  rw [v10]
  blk_ext [idx t]

/-- A token after the norm. -/
def hrow (c : Dev nD) (a : Fin 8192) : Fin 1024 → EReal := hid (fun l => X m c (ix2 a l)) (fun l => G m c (ix1 l))

/-- The normalised tokens of a block. -/
theorem hb_fill (c : Dev nD) (t : Fin cfg0.N) (r l : Fin 1024) :
    (k0_pay2 (F := Ideal) (iblk m c 0 t) (iblk m c 1 t) (ix2 r l) : EReal) = hrow m c (row t r) l := by
  refine (hpay _ _ _ _).trans ?_
  simp only [rb0, rb1]; rfl

/-- The normalised tokens at the first point of a run. -/
theorem hb_A (c : Dev nD) (t : Fin cfg0.N) (h0 : t.val % 4 = 0) (r l : Fin 1024) :
    (outsAt0 m c t.val t.isLt).2.2.2.1 (ix2 r l) = hrow m c (row t r) l := by
  rw [outsAt0_A m c t h0 (by omega)]; frame_out
  exact hb_fill m c t r l

/-- The normalised tokens stay what they are within a run. -/
theorem hb (c : Dev nD) : ∀ (n : Nat) (h : n < cfg0.N) (r l : Fin 1024),
    (outsAt0 m c n h).2.2.2.1 (ix2 r l) = hrow m c (row ⟨n, h⟩ r) l := by
  intro n
  induction n with
  | zero => exact fun h r l => hb_A m c ⟨0, h⟩ rfl r l
  | succ k ih =>
    intro h r l
    by_cases h0 : (k + 1) % 4 = 0
    · exact hb_A m c ⟨k + 1, h⟩ h0 r l
    · have hr : row ⟨k, Nat.lt_of_succ_lt h⟩ r = row ⟨k + 1, h⟩ r := Fin.ext (by simp only; omega)
      rw [← hr, ← ih]
      by_cases h1 : (k + 1) % 4 = 3
      · rw [outsAt0_C m c ⟨k + 1, h⟩ h0 h1]; simp only [sout0_C_0]; rfl
      · rw [outsAt0_B m c ⟨k + 1, h⟩ h0 h1]; simp only [sout0_B_0]; rfl

/-- So a later point of a run finds them as its own. -/
theorem hb_prev (c : Dev nD) (t : Fin cfg0.N) (h0 : ¬ t.val % 4 = 0) (r l : Fin 1024) :
    (outsAt0 m c (t.val - 1) (Nat.lt_of_le_of_lt (Nat.sub_le _ _) t.isLt)).2.2.2.1 (ix2 r l) = hrow m c (row t r) l := by
  rw [hb]
  exact congrArg (fun a => hrow m c a l) (Fin.ext (by simp only; omega))

/-- What the hidden column `k` adds to token `a`. -/
def part (c : Dev nD) (a : Fin 8192) (k : Fin 2816) (l : Fin 1024) : EReal :=
  gate (proj (hrow m c a) (fun i => WG m c (ix2 i k))) (proj (hrow m c a) (fun i => WU m c (ix2 i k))) * WD m c (ix2 k l)

/-- What a grid point adds to its block of tokens. -/
def term (c : Dev nD) (t : Fin cfg0.N) (y : S1024x1024.Idx) : EReal := ∑ f : Fin 704, part m c (row t (y 0)) (col t f) (y 1)

/-- A chunk of 256 tokens of a grid point. -/
theorem acc_piece (c : Dev nD) (t : Fin cfg0.N) (q : Fin 4) (K : FVec Ideal S1024x1024 .bf16) (A : FVec Ideal S1024x1024 .f32)
    (hK : ∀ r l, (K (ix2 r l) : EReal) = hrow m c (row t r) l) (h : FVec Ideal S256x1024 .bf16) (v : FVec Ideal S256x1024 .f32)
    (hh : ∀ (r : Fin 256) (l : Fin 1024), (h (ix2 r l) : EReal) = K (ix2 ⟨q.val * 256 + r, by omega⟩ l))
    (hv : ∀ (r : Fin 256) (l : Fin 1024), (v (ix2 r l) : EReal) = A (ix2 ⟨q.val * 256 + r, by omega⟩ l))
    (y : S1024x1024.Idx) (x : S256x1024.Idx) (h0 : (y 0).val = q.val * 256 + (x 0).val) (h1 : (y 1).val = (x 1).val) :
    (k0_pay9 (F := Ideal) (k0_pay8 h (iblk m c 2 t) (iblk m c 3 t) v (iblk m c 4 t)) x : EReal) = A y + term m c t y := by
  idx_vars x
  idx_vars y
  have hq : q.val * 256 + x0.val < 1024 := by
    have h : x0.val < 256 := x0.isLt
    omega
  obtain rfl : y1 = x1 := Fin.ext h1
  obtain rfl : y0 = (⟨q.val * 256 + x0.val, hq⟩ : Fin 1024) := Fin.ext h0
  refine (ppay _ _ _ _ _ _ _).trans ?_
  simp only [hv, hh, hK, rb2, rb3, rb4]
  rfl

/-- A chunk's projection. -/
theorem mid_piece (c : Dev nD) (t : Fin cfg0.N) (q : Fin 4) (K : FVec Ideal S1024x1024 .bf16)
    (hK : ∀ r l, (K (ix2 r l) : EReal) = hrow m c (row t r) l) (h : FVec Ideal S256x1024 .bf16)
    (hh : ∀ (r : Fin 256) (l : Fin 1024), (h (ix2 r l) : EReal) = K (ix2 ⟨q.val * 256 + r, by omega⟩ l))
    (w : FVec Ideal S1x1x704x1024 .bf16) (W : FVec Ideal S1024x2816 .f32) (hw : ∀ f l, (w (ix4 0 0 f l) : EReal) = W (ix2 l (col t f)))
    (y : S1x1024x704.Idx) (x : S1x256x704.Idx) (h0 : (y 1).val = q.val * 256 + (x 1).val) (h1 : (y 2).val = (x 2).val) :
    (k0_pay6 (F := Ideal) h w x : EReal) = proj (hrow m c (row t (y 1))) (fun i => W (ix2 i (col t (y 2)))) := by
  idx_vars x
  idx_vars y
  have hq : q.val * 256 + x1.val < 1024 := by
    have h : x1.val < 256 := x1.isLt
    omega
  obtain rfl : y2 = x2 := Fin.ext h1
  obtain rfl : y1 = (⟨q.val * 256 + x1.val, hq⟩ : Fin 1024) := Fin.ext h0
  refine (apay _ _ _ _ _).trans ?_
  simp only [hh, hK, hw]

/-- The first point of a run starts from zero. -/
theorem acc_A (c : Dev nD) (t : Fin cfg0.N) (h : t.val % 4 = 0) (y : S1024x1024.Idx) :
    (outsAt0 m c t.val t.isLt).2.2.2.2 y = 0 + term m c t y := by
  rw [outsAt0_A m c t h (by omega)]; frame_out
  simp (disch := decide) only [↓ View.readCov_skip, ↓ View.readCov_cons_toLoadRect, ↓ View.readCov_fill]
  clear h
  have hK := hb_fill m c t
  generalize k0_pay2 (F := Ideal) (iblk m c 0 t) (iblk m c 1 t) = K at hK ⊢
  refine (View.canon_append_of_piecesOf (Val := Elt Ideal) (fun y => k0_pay3 (F := Ideal) y + term m c t y) [_] [_, _, _, _]
    ⟨fun x => ?_, fun x => ?_, fun x => ?_, fun x => ?_, trivial⟩ y (View.cover_of_tiled_head _ _ _ (by rfl) y)).trans
    (by idx_vars y; exact congrArg (· + term m c t _) (zpay _ _))
  · refine acc_piece m c t 3 K _ hK _ _ (fun r l => by pointwise) (fun r l => by pointwise) _ x ?_ ?_ <;> simp only [Rect.emb_apply] <;> simp
  · refine acc_piece m c t 2 K _ hK _ _ (fun r l => by pointwise) (fun r l => by pointwise) _ x ?_ ?_ <;> simp only [Rect.emb_apply] <;> simp
  · refine acc_piece m c t 1 K _ hK _ _ (fun r l => by pointwise) (fun r l => by pointwise) _ x ?_ ?_ <;> simp only [Rect.emb_apply] <;> simp
  · refine acc_piece m c t 0 K _ hK _ _ (fun r l => by pointwise) (fun r l => by pointwise) _ x ?_ ?_ <;> simp only [Rect.emb_apply] <;> simp

/-- A middle point adds its part. -/
theorem acc_B (c : Dev nD) (t : Fin cfg0.N) (h0 : ¬ t.val % 4 = 0) (h1 : ¬ t.val % 4 = 3) (y : S1024x1024.Idx) :
    (outsAt0 m c t.val t.isLt).2.2.2.2 y
      = (outsAt0 m c (t.val - 1) (Nat.lt_of_le_of_lt (Nat.sub_le _ _) t.isLt)).2.2.2.2 y + term m c t y := by
  rw [outsAt0_B m c t h0 h1]; frame_out
  simp only [read_unread_whole]
  have hK := hb_prev m c t h0
  generalize (outsAt0 m c (t.val - 1) (Nat.lt_of_le_of_lt (Nat.sub_le _ _) t.isLt)).2.2.2.1 = K at hK ⊢
  generalize (outsAt0 m c (t.val - 1) (Nat.lt_of_le_of_lt (Nat.sub_le _ _) t.isLt)).2.2.2.2 = A
  clear h0 h1
  canon_tiles x h
  case piece0 => exact acc_piece m c t 3 K A hK _ _ (fun r l => by pointwise) (fun r l => by pointwise) y x h0 h1
  case piece1 => exact acc_piece m c t 2 K A hK _ _ (fun r l => by pointwise) (fun r l => by pointwise) y x h0 h1
  case piece2 => exact acc_piece m c t 1 K A hK _ _ (fun r l => by pointwise) (fun r l => by pointwise) y x h0 h1
  case piece3 => exact acc_piece m c t 0 K A hK _ _ (fun r l => by pointwise) (fun r l => by pointwise) y x (by omega) h1

/-- The last point of a run adds its part. -/
theorem acc_C (c : Dev nD) (t : Fin cfg0.N) (h0 : ¬ t.val % 4 = 0) (h1 : t.val % 4 = 3) (y : S1024x1024.Idx) :
    (outsAt0 m c t.val t.isLt).2.2.2.2 y
      = (outsAt0 m c (t.val - 1) (Nat.lt_of_le_of_lt (Nat.sub_le _ _) t.isLt)).2.2.2.2 y + term m c t y := by
  rw [outsAt0_C m c t h0 h1]; frame_out
  simp only [read_unread_whole]
  have hK := hb_prev m c t h0
  generalize (outsAt0 m c (t.val - 1) (Nat.lt_of_le_of_lt (Nat.sub_le _ _) t.isLt)).2.2.2.1 = K at hK ⊢
  generalize (outsAt0 m c (t.val - 1) (Nat.lt_of_le_of_lt (Nat.sub_le _ _) t.isLt)).2.2.2.2 = A
  clear h0 h1
  canon_tiles x h
  case piece0 => exact acc_piece m c t 3 K A hK _ _ (fun r l => by pointwise) (fun r l => by pointwise) y x h0 h1
  case piece1 => exact acc_piece m c t 2 K A hK _ _ (fun r l => by pointwise) (fun r l => by pointwise) y x h0 h1
  case piece2 => exact acc_piece m c t 1 K A hK _ _ (fun r l => by pointwise) (fun r l => by pointwise) y x h0 h1
  case piece3 => exact acc_piece m c t 0 K A hK _ _ (fun r l => by pointwise) (fun r l => by pointwise) y x (by omega) h1

/-- The gate's projection of a grid point. -/
theorem mid_A6 (c : Dev nD) (t : Fin cfg0.N) (h : t.val % 4 = 0) (y : S1x1024x704.Idx) :
    (outsAt0 m c t.val t.isLt).2.1 y = proj (hrow m c (row t (y 1))) (fun i => WG m c (ix2 i (col t (y 2)))) := by
  rw [outsAt0_A m c t h (by omega)]; frame_out
  simp (disch := decide) only [↓ View.readCov_fill]
  clear h
  have hK := hb_fill m c t
  generalize k0_pay2 (F := Ideal) (iblk m c 0 t) (iblk m c 1 t) = K at hK ⊢
  canon_tiles x h
  case piece0 => exact mid_piece m c t 3 K hK _ (fun r l => by pointwise) _ _ (rb2 m c t) y x h1 h2
  case piece1 => exact mid_piece m c t 2 K hK _ (fun r l => by pointwise) _ _ (rb2 m c t) y x h1 h2
  case piece2 => exact mid_piece m c t 1 K hK _ (fun r l => by pointwise) _ _ (rb2 m c t) y x h1 h2
  case piece3 => exact mid_piece m c t 0 K hK _ (fun r l => by pointwise) _ _ (rb2 m c t) y x (by omega) h2

/-- The gate's projection of a grid point. -/
theorem mid_B6 (c : Dev nD) (t : Fin cfg0.N) (h0 : ¬ t.val % 4 = 0) (h1 : ¬ t.val % 4 = 3) (y : S1x1024x704.Idx) :
    (outsAt0 m c t.val t.isLt).2.1 y = proj (hrow m c (row t (y 1))) (fun i => WG m c (ix2 i (col t (y 2)))) := by
  rw [outsAt0_B m c t h0 h1]; frame_out
  simp only [read_unread_whole]
  have hK := hb_prev m c t h0
  generalize (outsAt0 m c (t.val - 1) (Nat.lt_of_le_of_lt (Nat.sub_le _ _) t.isLt)).2.2.2.1 = K at hK ⊢
  clear h0 h1
  canon_tiles x h
  case piece0 => exact mid_piece m c t 3 K hK _ (fun r l => by pointwise) _ _ (rb2 m c t) y x h1 h2
  case piece1 => exact mid_piece m c t 2 K hK _ (fun r l => by pointwise) _ _ (rb2 m c t) y x h1 h2
  case piece2 => exact mid_piece m c t 1 K hK _ (fun r l => by pointwise) _ _ (rb2 m c t) y x h1 h2
  case piece3 => exact mid_piece m c t 0 K hK _ (fun r l => by pointwise) _ _ (rb2 m c t) y x (by omega) h2

/-- The gate's projection of a grid point. -/
theorem mid_C6 (c : Dev nD) (t : Fin cfg0.N) (h0 : ¬ t.val % 4 = 0) (h1 : t.val % 4 = 3) (y : S1x1024x704.Idx) :
    (outsAt0 m c t.val t.isLt).2.1 y = proj (hrow m c (row t (y 1))) (fun i => WG m c (ix2 i (col t (y 2)))) := by
  rw [outsAt0_C m c t h0 h1]; frame_out
  simp only [read_unread_whole]
  have hK := hb_prev m c t h0
  generalize (outsAt0 m c (t.val - 1) (Nat.lt_of_le_of_lt (Nat.sub_le _ _) t.isLt)).2.2.2.1 = K at hK ⊢
  clear h0 h1
  canon_tiles x h
  case piece0 => exact mid_piece m c t 3 K hK _ (fun r l => by pointwise) _ _ (rb2 m c t) y x h1 h2
  case piece1 => exact mid_piece m c t 2 K hK _ (fun r l => by pointwise) _ _ (rb2 m c t) y x h1 h2
  case piece2 => exact mid_piece m c t 1 K hK _ (fun r l => by pointwise) _ _ (rb2 m c t) y x h1 h2
  case piece3 => exact mid_piece m c t 0 K hK _ (fun r l => by pointwise) _ _ (rb2 m c t) y x (by omega) h2

/-- The up projection of a grid point. -/
theorem mid_A7 (c : Dev nD) (t : Fin cfg0.N) (h : t.val % 4 = 0) (y : S1x1024x704.Idx) :
    (outsAt0 m c t.val t.isLt).2.2.1 y = proj (hrow m c (row t (y 1))) (fun i => WU m c (ix2 i (col t (y 2)))) := by
  rw [outsAt0_A m c t h (by omega)]; frame_out
  simp (disch := decide) only [↓ View.readCov_fill]
  clear h
  have hK := hb_fill m c t
  generalize k0_pay2 (F := Ideal) (iblk m c 0 t) (iblk m c 1 t) = K at hK ⊢
  canon_tiles x h
  case piece0 => exact mid_piece m c t 3 K hK _ (fun r l => by pointwise) _ _ (rb3 m c t) y x h1 h2
  case piece1 => exact mid_piece m c t 2 K hK _ (fun r l => by pointwise) _ _ (rb3 m c t) y x h1 h2
  case piece2 => exact mid_piece m c t 1 K hK _ (fun r l => by pointwise) _ _ (rb3 m c t) y x h1 h2
  case piece3 => exact mid_piece m c t 0 K hK _ (fun r l => by pointwise) _ _ (rb3 m c t) y x (by omega) h2

/-- The up projection of a grid point. -/
theorem mid_B7 (c : Dev nD) (t : Fin cfg0.N) (h0 : ¬ t.val % 4 = 0) (h1 : ¬ t.val % 4 = 3) (y : S1x1024x704.Idx) :
    (outsAt0 m c t.val t.isLt).2.2.1 y = proj (hrow m c (row t (y 1))) (fun i => WU m c (ix2 i (col t (y 2)))) := by
  rw [outsAt0_B m c t h0 h1]; frame_out
  simp only [read_unread_whole]
  have hK := hb_prev m c t h0
  generalize (outsAt0 m c (t.val - 1) (Nat.lt_of_le_of_lt (Nat.sub_le _ _) t.isLt)).2.2.2.1 = K at hK ⊢
  clear h0 h1
  canon_tiles x h
  case piece0 => exact mid_piece m c t 3 K hK _ (fun r l => by pointwise) _ _ (rb3 m c t) y x h1 h2
  case piece1 => exact mid_piece m c t 2 K hK _ (fun r l => by pointwise) _ _ (rb3 m c t) y x h1 h2
  case piece2 => exact mid_piece m c t 1 K hK _ (fun r l => by pointwise) _ _ (rb3 m c t) y x h1 h2
  case piece3 => exact mid_piece m c t 0 K hK _ (fun r l => by pointwise) _ _ (rb3 m c t) y x (by omega) h2

/-- The up projection of a grid point. -/
theorem mid_C7 (c : Dev nD) (t : Fin cfg0.N) (h0 : ¬ t.val % 4 = 0) (h1 : t.val % 4 = 3) (y : S1x1024x704.Idx) :
    (outsAt0 m c t.val t.isLt).2.2.1 y = proj (hrow m c (row t (y 1))) (fun i => WU m c (ix2 i (col t (y 2)))) := by
  rw [outsAt0_C m c t h0 h1]; frame_out
  simp only [read_unread_whole]
  have hK := hb_prev m c t h0
  generalize (outsAt0 m c (t.val - 1) (Nat.lt_of_le_of_lt (Nat.sub_le _ _) t.isLt)).2.2.2.1 = K at hK ⊢
  clear h0 h1
  canon_tiles x h
  case piece0 => exact mid_piece m c t 3 K hK _ (fun r l => by pointwise) _ _ (rb3 m c t) y x h1 h2
  case piece1 => exact mid_piece m c t 2 K hK _ (fun r l => by pointwise) _ _ (rb3 m c t) y x h1 h2
  case piece2 => exact mid_piece m c t 1 K hK _ (fun r l => by pointwise) _ _ (rb3 m c t) y x h1 h2
  case piece3 => exact mid_piece m c t 0 K hK _ (fun r l => by pointwise) _ _ (rb3 m c t) y x (by omega) h2

/-- The block of results is the residual sum over the accumulator. -/
theorem y_C (c : Dev nD) (t : Fin cfg0.N) (h0 : ¬ t.val % 4 = 0) (h1 : t.val % 4 = 3) (r l : Fin 1024) :
    (outsAt0 m c t.val t.isLt).1 (ix2 r l)
      = X m c (ix2 (row t r) l) + Ideal.ofBits .f32 0x3F000000#32 * (outsAt0 m c t.val t.isLt).2.2.2.2 (ix2 r l) := by
  rw [outsAt0_C m c t h0 h1]; frame_out
  rw [View.readCov_eq_canon']
  refine (ypay _ _ _ _).trans ?_
  rw [rb0]
  refine congrArg (fun e : EReal => X m c (ix2 (row t r) l) + Ideal.ofBits .f32 0x3F000000#32 * e) ?_
  refine congrArg (View.canon _) (funext fun a => Fin.ext ?_)
  fin_cases a <;> simp [LoadRect.idx]

/-- A point after the first of a run adds its part. -/
theorem acc_step (c : Dev nD) (t : Fin cfg0.N) (h0 : ¬ t.val % 4 = 0) (y : S1024x1024.Idx) :
    (outsAt0 m c t.val t.isLt).2.2.2.2 y
      = (outsAt0 m c (t.val - 1) (Nat.lt_of_le_of_lt (Nat.sub_le _ _) t.isLt)).2.2.2.2 y + term m c t y := by
  by_cases h1 : t.val % 4 = 3
  · exact acc_C m c t h0 h1 y
  · exact acc_B m c t h0 h1 y

/-- Over the four points of a run the parts add up to the whole product out. -/
theorem run_sum (c : Dev nD) (t : Fin cfg0.N) (ht : t.val % 4 = 4 - 1) (r l : Fin 1024) :
    ∑ s : Fin 4, term m c ⟨4 * (t.val / 4) + s.val, Pipeline.run_point_lt_of_flush t ht s⟩ (ix2 r l)
      = ∑ k : Fin 2816, part m c (row t r) k l := by
  refine Fin.sum_mul_add_congr fun s k hl => ?_
  have hr : row ⟨4 * (t.val / 4) + s.val, Pipeline.run_point_lt_of_flush t ht s⟩ r = row t r :=
    Fin.ext (by have := s.isLt; simp only; omega)
  have hc : col ⟨4 * (t.val / 4) + s.val, Pipeline.run_point_lt_of_flush t ht s⟩ k = ⟨s.val * 704 + k.val, hl⟩ :=
    Fin.ext (by have := s.isLt; simp only; omega)
  exact congrArg₂ (fun a q => part m c a q l) hr hc

/-- The stored projections at every point. -/
theorem mid6 (c : Dev nD) (t : Fin cfg0.N) (y : S1x1024x704.Idx) :
    (outsAt0 m c t.val t.isLt).2.1 y = proj (hrow m c (row t (y 1))) (fun i => WG m c (ix2 i (col t (y 2)))) := by
  by_cases h0 : t.val % 4 = 0
  · exact mid_A6 m c t h0 y
  · by_cases h1 : t.val % 4 = 3
    · exact mid_C6 m c t h0 h1 y
    · exact mid_B6 m c t h0 h1 y

/-- The stored up projections at every point. -/
theorem mid7 (c : Dev nD) (t : Fin cfg0.N) (y : S1x1024x704.Idx) :
    (outsAt0 m c t.val t.isLt).2.2.1 y = proj (hrow m c (row t (y 1))) (fun i => WU m c (ix2 i (col t (y 2)))) := by
  by_cases h0 : t.val % 4 = 0
  · exact mid_A7 m c t h0 y
  · by_cases h1 : t.val % 4 = 3
    · exact mid_C7 m c t h0 h1 y
    · exact mid_B7 m c t h0 h1 y

/-- The half's result after the call is the reference's. -/
theorem final5 (c : Dev nD) : (dats m 0 c).arrAt 5 (cfgs 0).N
    = Cert.Reference5Ideal.Read.val_main_v20 (F := Ideal) (X m c) (G m c) (WG m c) (WU m c) (WD m c) := by
  refine (dats m 0 c).arrAt_eq_of_covers 5 _ (by decide +kernel) fun t hf y => ?_
  have ht := (flush0_5 t).mp hf
  refine Eq.trans ?_ (show Cert.Reference5Ideal.Read.val_main_v20 (F := Ideal) (X m c) (G m c) (WG m c) (WU m c) (WD m c) (ix2 (row t (y 0)) (y 1)) = _ from ?_)
  · blk_simp
    rw [after0_5]
    idx_vars y
    rw [y_C m c t (by omega) (by omega), Pipeline.eq_sum_fin_of_reset_step_apply_of_flush (fun n h => (outsAt0 m c n h).2.2.2.2) 4 (fun _ => 0)
      (term m c) (fun t h y => acc_A m c t h y) (fun t h y => acc_step m c t h y) t ht _, zero_add, run_sum m c t ht]
    exact (ref20 (X m c) (G m c) (WG m c) (WU m c) (WD m c) _ _).symm
  · blk_ext [idx t]

/-- The gate's projection after the call is the reference's. -/
theorem final6 (c : Dev nD) : (dats m 0 c).arrAt 6 (cfgs 0).N
    = Cert.Reference5Ideal.Read.val_main_v23 (F := Ideal) (X m c) (G m c) (WG m c) := by
  refine (dats m 0 c).arrAt_eq_of_covers 6 _ (by decide +kernel) fun t hf y => ?_
  refine Eq.trans ?_ (show Cert.Reference5Ideal.Read.val_main_v23 (F := Ideal) (X m c) (G m c) (WG m c) (ix3 ⟨t.val % 4, by omega⟩ (row t (y 1)) (y 2)) = _ from ?_)
  · blk_simp
    rw [after0_6]
    idx_vars y
    rw [mid6 m c t]
    exact (ref23 (X m c) (G m c) (WG m c) ⟨t.val % 4, by omega⟩ (row t y1) y2).symm
  · blk_ext [idx t]

/-- The up projection after the call is the reference's. -/
theorem final7 (c : Dev nD) : (dats m 0 c).arrAt 7 (cfgs 0).N
    = Cert.Reference5Ideal.Read.val_main_v26 (F := Ideal) (X m c) (G m c) (WU m c) := by
  refine (dats m 0 c).arrAt_eq_of_covers 7 _ (by decide +kernel) fun t hf y => ?_
  rw [ref26]
  refine Eq.trans ?_ (show Cert.Reference5Ideal.Read.val_main_v23 (F := Ideal) (X m c) (G m c) (WU m c) (ix3 ⟨t.val % 4, by omega⟩ (row t (y 1)) (y 2)) = _ from ?_)
  · blk_simp
    rw [after0_7]
    idx_vars y
    rw [mid7 m c t]
    exact (ref23 (X m c) (G m c) (WU m c) ⟨t.val % 4, by omega⟩ (row t y1) y2).symm
  · blk_ext [idx t]

end Cert.Ffn1
-- ==== Proof.Ffn1Claim.lean ====
module

public import proofs.«01_k».proof.Defs
public import proofs.«01_k».proof.Proof.Ffn1Val
public import proofs.«01_k».proof.Proof.Gen.Kernel5.Frame
public import proofs.«01_k».proof.Proof.Gen.Reference5Ideal.Run
public import Idealize.ShloMosaic.Lib.Claim

set_option maxRecDepth 16384

@[expose] public section

noncomputable section

open Idealize.ShloMosaic Idealize.SL.Sem

namespace Cert.Ffn1

/-- The printed call runs, keeps its arguments and ends quiescent. -/
theorem frame_bits : Cert.quiescent_Kernel5 := fun m ρ _ => Cert.Kernel5.Gen.frame m ρ

/-- The idealized call runs, keeps its arguments and ends quiescent. -/
theorem frame_ideal : Cert.quiescent_Kernel5Ideal := fun m ρ _ => Cert.Kernel5Ideal.Gen.frame m ρ

/-- The reference runs, keeps its arguments and ends quiescent: it has host operations only and declares no semaphore. -/
theorem frame_ref : Cert.quiescent_Reference5Ideal := by
  intro m g _
  exact (θ_run Cert.Reference5Ideal.defs _ _).mono (fun r h => ⟨fun c => (h c).2.2.2, sem_eq_zero_of_no_sems (by decide) r.2⟩)
    (Cert.Reference5Ideal.Value.run m g)

set_option maxHeartbeats 1600000 in
/-- The call computes the reference's half and its two projections in. -/
theorem value : Cert.algebraic_Kernel5Ideal_Reference5Ideal := by
  pair_intro
  · run_from Cert.Kernel5Ideal.Gen.run_main m g
  · run_from Cert.Reference5Ideal.Value.run m' g'
    · exact (Cert.Reference5Ideal.Read.val_main_v20_eq _ _ _ _ _).trans (final5 m c).symm
    · exact (Cert.Reference5Ideal.Read.val_main_v23_eq _ _ _).trans (final6 m c).symm
    · exact (Cert.Reference5Ideal.Read.val_main_v26_eq _ _ _).trans (final7 m c).symm

end Cert.Ffn1
-- ==== Proof.Ffn2Pure.lean ====
module

public import proofs.«01_k».proof.Proof.Gen.Kernel6Ideal.Skeleton
public import proofs.«01_k».proof.Proof.Gen.Reference6Ideal.Read
public import proofs.«01_k».proof.Proof.FfnMath
public import proofs.«01_k».proof.Proof.RmsLaw

set_option maxRecDepth 16384

@[expose] public section

noncomputable section

open Idealize.ShloMosaic Idealize.ShloMosaic.TcCoe Idealize.SL.Sem

namespace Cert.Ffn2

open Cert.Kernel6Ideal Cert.Kernel6Ideal.Gen Cert.FfnMath

/-- A row of the residual sum. -/
def yr (x a : FVec Ideal S256x1024 .f32) (r : Fin 256) : Fin 1024 → EReal := fun l => x (ix2 r l) + Ideal.ofBits .f32 0x3F000000#32 * a (ix2 r l)

/-- A row of a block. -/
def rw2 (t : FVec Ideal S256x1024 .f32) (r : Fin 256) : Fin 1024 → EReal := fun l => t (ix2 r l)

/-- The scale's row. -/
def gv (g : FVec Ideal S1x1024 .f32) : Fin 1024 → EReal := fun l => g (ix2 0 l)

/-- The normalised tokens of a block. -/
theorem hpay (x : FVec Ideal S1024x1024 .f32) (g : FVec Ideal S1x1024 .f32) (r l : Fin 1024) :
    (k0_pay39 (F := Ideal) x g (ix2 r l) : EReal) = hid (fun k => x (ix2 r k)) (fun k => g (ix2 0 k)) l := by
  pointwise [k0_pay39]
  rfl

/-- The accumulator starts at zero. -/
theorem zpay (r l : Fin 1024) : (k0_pay40 (F := Ideal) (ix2 r l) : EReal) = 0 := by
  pointwise [k0_pay40]

/-- The loss starts at zero. -/
theorem zpayL (i : Fin 8) (j : Fin 128) : (k0_pay41 (F := Ideal) (ix2 i j) : EReal) = 0 := by
  pointwise [k0_pay41]

/-- The scale's gradient starts at zero. -/
theorem zpayG (u : Fin 1) (l : Fin 1024) : (k0_pay42 (F := Ideal) (ix2 u l) : EReal) = 0 := by
  pointwise [k0_pay42]

/-- A chunk's projection as it is stored. -/
theorem apay (h : FVec Ideal S256x1024 .bf16) (w : FVec Ideal S1x1x704x1024 .bf16) (u : Fin 1) (r : Fin 256) (f : Fin 704) :
    (k0_pay45 (F := Ideal) h w (ix3 u r f) : EReal) = proj (fun k => h (ix2 r k)) (fun k => w (ix4 0 0 f k)) := by
  pointwise [k0_pay45, k0_pay43]
  rfl

/-- A chunk's part of the product out, added to what was accumulated. -/
theorem ppay (h : FVec Ideal S256x1024 .bf16) (wg wu wd : FVec Ideal S1x1x704x1024 .bf16) (v : FVec Ideal S256x1024 .f32)
    (r : Fin 256) (l : Fin 1024) :
    (k0_pay48 (F := Ideal) (k0_pay47 h wg wu) v wd (ix2 r l) : EReal)
      = v (ix2 r l) + ∑ f : Fin 704, gate (proj (fun k => h (ix2 r k)) (fun k => wg (ix4 0 0 f k)))
          (proj (fun k => h (ix2 r k)) (fun k => wu (ix4 0 0 f k))) * wd (ix4 0 0 f l) := by
  pointwise [k0_pay48, k0_pay47, k0_pay43, k0_pay44]
  rfl

/-- A chunk's loss. -/
def closs (Y T : Fin 256 → Fin 1024 → EReal) (g : Fin 1024 → EReal) : EReal :=
  Ideal.ofBits .f32 0x3F000000#32 * ∑ r, tokLoss (Y r) g (T r)

/-- The scale's row as it is read. -/
theorem g3 (g : FVec Ideal S1x1024 .f32) : gv (k0_pay3 g) = gv g := by
  funext l
  show (k0_pay3 (F := Ideal) g (ix2 0 l) : EReal) = g (ix2 0 l)
  pointwise [k0_pay3]

/-- The first chunk's gradient. -/
theorem dy0 (x a : FVec Ideal S256x1024 .f32) (t : FVec Ideal S256x1024 .f32) (g : FVec Ideal S1x1024 .f32) (r : Fin 256) (l : Fin 1024) :
    (k0_pay12 (F := Ideal) (k0_pay5 x a) (k0_pay6 x a) (k0_pay9 g x a t) (k0_pay11 g) (ix2 r l) : EReal)
      = tokGrad (yr x a r) (gv g) (rw2 t r) l := by
  pointwise [k0_pay12, k0_pay11, k0_pay9, k0_pay7, k0_pay6, k0_pay5, k0_pay4, k0_pay3]
  rfl

/-- The first chunk's loss. -/
theorem loss0 (x a : FVec Ideal S256x1024 .f32) (t : FVec Ideal S256x1024 .f32) (g : FVec Ideal S1x1024 .f32) : (k0_pay8 (F := Ideal) g x a t : EReal) = closs (yr x a) (rw2 t) (gv g) := by
  pointwise [k0_pay8, k0_pay7, k0_pay6, k0_pay5, k0_pay4, k0_pay3]
  simp only [Finset.univ_unique, Finset.sum_const, Finset.card_singleton, one_smul]
  rfl

/-- The first chunk's part of the scale's gradient. -/
theorem dg0 (x a : FVec Ideal S256x1024 .f32) (t : FVec Ideal S256x1024 .f32) (g : FVec Ideal S1x1024 .f32) (u : Fin 1) (l : Fin 1024) :
    (k0_pay10 (F := Ideal) g x a t (ix2 u l) : EReal) = ∑ r, tokGain (yr x a r) (gv g) (rw2 t r) l := by
  pointwise [k0_pay10, k0_pay9, k0_pay7, k0_pay6, k0_pay5, k0_pay4, k0_pay3]
  rfl

/-- The second chunk's gradient. -/
theorem dy1 (x a : FVec Ideal S256x1024 .f32) (t : FVec Ideal S256x1024 .f32) (g : FVec Ideal S1x1024 .f32) (r : Fin 256) (l : Fin 1024) :
    (k0_pay21 (F := Ideal) g (k0_pay14 x a) (k0_pay15 x a) (k0_pay16 g x a t) (ix2 r l) : EReal)
      = tokGrad (yr x a r) (gv g) (rw2 t r) l := by
  pointwise [k0_pay21, k0_pay19, k0_pay16, k0_pay15, k0_pay14, k0_pay13]
  rfl

/-- The second chunk's loss, added. -/
theorem loss1 (p : EReal) (x a : FVec Ideal S256x1024 .f32) (t : FVec Ideal S256x1024 .f32) (g : FVec Ideal S1x1024 .f32) :
    (k0_pay18 (F := Ideal) p (k0_pay17 g x a t) : EReal) = p + closs (yr x a) (rw2 t) (gv g) := by
  pointwise [k0_pay18, k0_pay17, k0_pay16, k0_pay15, k0_pay14, k0_pay13]
  simp only [Finset.univ_unique, Finset.sum_const, Finset.card_singleton, one_smul]
  rfl

/-- The second chunk's part of the scale's gradient, added. -/
theorem dg1 (p : FVec Ideal S1x1024 .f32) (x a : FVec Ideal S256x1024 .f32) (t : FVec Ideal S256x1024 .f32) (g : FVec Ideal S1x1024 .f32) (u : Fin 1) (l : Fin 1024) :
    (k0_pay20 (F := Ideal) p (k0_pay15 x a) (k0_pay16 g x a t) (ix2 u l) : EReal)
      = p (ix2 u l) + ∑ r, tokGain (yr x a r) (gv g) (rw2 t r) l := by
  pointwise [k0_pay20, k0_pay19, k0_pay16, k0_pay15, k0_pay14, k0_pay13]
  rfl

/-- The third chunk's gradient. -/
theorem dy2 (x a : FVec Ideal S256x1024 .f32) (t : FVec Ideal S256x1024 .f32) (g : FVec Ideal S1x1024 .f32) (r : Fin 256) (l : Fin 1024) :
    (k0_pay30 (F := Ideal) g (k0_pay23 x a) (k0_pay24 x a) (k0_pay25 g x a t) (ix2 r l) : EReal)
      = tokGrad (yr x a r) (gv g) (rw2 t r) l := by
  pointwise [k0_pay30, k0_pay28, k0_pay25, k0_pay24, k0_pay23, k0_pay22]
  rfl

/-- The third chunk's loss, added. -/
theorem loss2 (p : EReal) (x a : FVec Ideal S256x1024 .f32) (t : FVec Ideal S256x1024 .f32) (g : FVec Ideal S1x1024 .f32) :
    (k0_pay27 (F := Ideal) p (k0_pay26 g x a t) : EReal) = p + closs (yr x a) (rw2 t) (gv g) := by
  pointwise [k0_pay27, k0_pay26, k0_pay25, k0_pay24, k0_pay23, k0_pay22]
  simp only [Finset.univ_unique, Finset.sum_const, Finset.card_singleton, one_smul]
  rfl

/-- The third chunk's part of the scale's gradient, added. -/
theorem dg2 (p : FVec Ideal S1x1024 .f32) (x a : FVec Ideal S256x1024 .f32) (t : FVec Ideal S256x1024 .f32) (g : FVec Ideal S1x1024 .f32) (u : Fin 1) (l : Fin 1024) :
    (k0_pay29 (F := Ideal) p (k0_pay24 x a) (k0_pay25 g x a t) (ix2 u l) : EReal)
      = p (ix2 u l) + ∑ r, tokGain (yr x a r) (gv g) (rw2 t r) l := by
  pointwise [k0_pay29, k0_pay28, k0_pay25, k0_pay24, k0_pay23, k0_pay22]
  rfl

/-- The last chunk's gradient. -/
theorem dy3 (x a : FVec Ideal S256x1024 .f32) (t : FVec Ideal S256x1024 .f32) (g : FVec Ideal S1x1024 .f32) (r : Fin 256) (l : Fin 1024) :
    (k0_pay37 (F := Ideal) g (k0_pay32 x a) (k0_pay33 x a) t (ix2 r l) : EReal)
      = tokGrad (yr x a r) (gv g) (rw2 t r) l := by
  pointwise [k0_pay37, k0_pay35, k0_pay34, k0_pay33, k0_pay32, k0_pay31]
  rfl

/-- The loss of a tile of tokens, added to the block. -/
theorem loss3 (p : EReal) (L : FVec Ideal S8x128 .f32) (x a : FVec Ideal S256x1024 .f32) (t : FVec Ideal S256x1024 .f32) (g : FVec Ideal S1x1024 .f32) (i : Fin 8) (j : Fin 128) :
    (k0_pay38 (F := Ideal) g p (k0_pay33 x a) t L (ix2 i j) : EReal)
      = L (ix2 i j) + (p + closs (yr x a) (rw2 t) (gv g)) := by
  pointwise [k0_pay38, k0_pay34, k0_pay33, k0_pay32, k0_pay31]
  simp only [Finset.univ_unique, Finset.sum_const, Finset.card_singleton, one_smul]
  rfl

/-- The last chunk's part of the scale's gradient, added. -/
theorem dg3 (p : FVec Ideal S1x1024 .f32) (x a : FVec Ideal S256x1024 .f32) (t : FVec Ideal S256x1024 .f32) (g : FVec Ideal S1x1024 .f32) (u : Fin 1) (l : Fin 1024) :
    (k0_pay36 (F := Ideal) g p (k0_pay33 x a) t (ix2 u l) : EReal)
      = p (ix2 u l) + ∑ r, tokGain (yr x a r) (gv g) (rw2 t r) l := by
  pointwise [k0_pay36, k0_pay35, k0_pay34, k0_pay33, k0_pay32, k0_pay31]
  rfl

/-- A tile's part of the scale's gradient, added to the block. -/
theorem dgsum (p L : FVec Ideal S1x1024 .f32) (u : Fin 1) (l : Fin 1024) :
    (k0_pay2 (F := Ideal) p L (ix2 u l) : EReal) = L (ix2 u l) + p (ix2 u l) := by
  pointwise [k0_pay2]

/-- The reference's projection in. -/
theorem ref13 (x : FVec Ideal Cert.Reference6Ideal.S8192x1024 .f32) (g : FVec Ideal Cert.Reference6Ideal.S1024 .f32)
    (w : FVec Ideal Cert.Reference6Ideal.S1024x2816 .f32) (a : Fin 8192) (k : Fin 2816) :
    Cert.Reference6Ideal.Read.val_main_v13 (F := Ideal) x g w (ix2 a k)
      = proj (hid (fun l => x (ix2 a l)) (fun l => g (ix1 l))) (fun l => w (ix2 l k)) := by
  pointwise [Cert.Reference6Ideal.Read.val_main_v13, Cert.Reference6Ideal.Read.val_main_v12, Cert.Reference6Ideal.Read.val_main_v11, Cert.Reference6Ideal.Read.val_main_v10, Cert.Reference6Ideal.Read.val_main_v9, Cert.Reference6Ideal.Read.val_main_v8, Cert.Reference6Ideal.Read.val_main_v7, Cert.Reference6Ideal.Read.val_main_v6, Cert.Reference6Ideal.Read.val_main_v5, Cert.Reference6Ideal.Read.val_main_v4, Cert.Reference6Ideal.Read.val_main_v3, Cert.Reference6Ideal.Read.val_main_v2, Cert.Reference6Ideal.Read.val_main_v1, Cert.Reference6Ideal.Read.val_main_v0, Cert.Reference6Ideal.Read.val_main_cst, Cert.Reference6Ideal.Read.val_main_cst_0, Cert.Reference6Ideal.Read.val_main_cst_1]
  rfl

/-- Both projections of the reference are one function of the weight. -/
theorem ref14 : @Cert.Reference6Ideal.Read.val_main_v14 Ideal _ = Cert.Reference6Ideal.Read.val_main_v13 := rfl

/-- The reference's projection as it is returned. -/
theorem ref23 (x : FVec Ideal Cert.Reference6Ideal.S8192x1024 .f32) (g : FVec Ideal Cert.Reference6Ideal.S1024 .f32)
    (w : FVec Ideal Cert.Reference6Ideal.S1024x2816 .f32) (j : Fin 4) (a : Fin 8192) (f : Fin 704) :
    Cert.Reference6Ideal.Read.val_main_v74 (F := Ideal) x g w (ix3 j a f)
      = proj (hid (fun l => x (ix2 a l)) (fun l => g (ix1 l))) (fun l => w (ix2 l ⟨j.val * 704 + f, by omega⟩)) := by
  rw [← ref13]
  pointwise [Cert.Reference6Ideal.Read.val_main_v74, Cert.Reference6Ideal.Read.val_main_v73, Cert.Reference6Ideal.Read.val_main_v72]
  done

/-- The other likewise. -/
theorem ref26 : @Cert.Reference6Ideal.Read.val_main_v77 Ideal _ = Cert.Reference6Ideal.Read.val_main_v74 := rfl

/-- The reference's half. -/
theorem ref20 (x : FVec Ideal Cert.Reference6Ideal.S8192x1024 .f32) (g : FVec Ideal Cert.Reference6Ideal.S1024 .f32)
    (wg wu : FVec Ideal Cert.Reference6Ideal.S1024x2816 .f32) (wd : FVec Ideal Cert.Reference6Ideal.S2816x1024 .f32) (a : Fin 8192) (l : Fin 1024) :
    Cert.Reference6Ideal.Read.val_main_v20 (F := Ideal) x g wg wu wd (ix2 a l)
      = x (ix2 a l) + Ideal.ofBits .f32 0x3F000000#32 * ∑ k : Fin 2816,
          gate (proj (hid (fun l => x (ix2 a l)) (fun l => g (ix1 l))) (fun l => wg (ix2 l k)))
            (proj (hid (fun l => x (ix2 a l)) (fun l => g (ix1 l))) (fun l => wu (ix2 l k))) * wd (ix2 k l) := by
  simp only [← ref13]
  pointwise [Cert.Reference6Ideal.Read.val_main_v20, Cert.Reference6Ideal.Read.val_main_v19, Cert.Reference6Ideal.Read.val_main_v18, Cert.Reference6Ideal.Read.val_main_cst_2, Cert.Reference6Ideal.Read.val_main_v17, Cert.Reference6Ideal.Read.val_main_v16, Cert.Reference6Ideal.Read.val_main_v15, Cert.Reference6Ideal.Read.val_main_call0_v5, Cert.Reference6Ideal.Read.val_main_call0_v4, Cert.Reference6Ideal.Read.val_main_call0_v3, Cert.Reference6Ideal.Read.val_main_call0_v2, Cert.Reference6Ideal.Read.val_main_call0_v1, Cert.Reference6Ideal.Read.val_main_call0_v0, Cert.Reference6Ideal.Read.val_main_call0_cst, Cert.Reference6Ideal.Read.val_main_call0_cst_0]
  rfl

/-- A row of the reference's residual sum. -/
def Yr (x : FVec Ideal Cert.Reference6Ideal.S8192x1024 .f32) (g : FVec Ideal Cert.Reference6Ideal.S1024 .f32)
    (wg wu : FVec Ideal Cert.Reference6Ideal.S1024x2816 .f32) (wd : FVec Ideal Cert.Reference6Ideal.S2816x1024 .f32) (a : Fin 8192) : Fin 1024 → EReal :=
  fun l => Cert.Reference6Ideal.Read.val_main_v20 (F := Ideal) x g wg wu wd (ix2 a l)

/-- The reference's error. -/
theorem ref37 (x : FVec Ideal Cert.Reference6Ideal.S8192x1024 .f32) (g : FVec Ideal Cert.Reference6Ideal.S1024 .f32)
    (wg wu : FVec Ideal Cert.Reference6Ideal.S1024x2816 .f32) (wd : FVec Ideal Cert.Reference6Ideal.S2816x1024 .f32) (gf : FVec Ideal Cert.Reference6Ideal.S1024 .f32) (t : FVec Ideal Cert.Reference6Ideal.S8192x1024 .f32) (a : Fin 8192) (l : Fin 1024) :
    (Cert.Reference6Ideal.Read.val_main_v37 (F := Ideal) x g wg wu wd gf t (ix2 a l) : EReal)
      = err (Yr x g wg wu wd a) (fun l => gf (ix1 l)) (fun l => t (ix2 a l)) l := by
  pointwise [Cert.Reference6Ideal.Read.val_main_v37, Cert.Reference6Ideal.Read.val_main_v36, Cert.Reference6Ideal.Read.val_main_v35, Cert.Reference6Ideal.Read.val_main_v34, Cert.Reference6Ideal.Read.val_main_v33, Cert.Reference6Ideal.Read.val_main_v32, Cert.Reference6Ideal.Read.val_main_v31, Cert.Reference6Ideal.Read.val_main_v30, Cert.Reference6Ideal.Read.val_main_v29, Cert.Reference6Ideal.Read.val_main_v28, Cert.Reference6Ideal.Read.val_main_v27, Cert.Reference6Ideal.Read.val_main_v26, Cert.Reference6Ideal.Read.val_main_v25, Cert.Reference6Ideal.Read.val_main_v24, Cert.Reference6Ideal.Read.val_main_v23, Cert.Reference6Ideal.Read.val_main_v22, Cert.Reference6Ideal.Read.val_main_v21, Cert.Reference6Ideal.Read.val_main_cst, Cert.Reference6Ideal.Read.val_main_cst_1, Cert.Reference6Ideal.Read.val_main_cst_2, Cert.Reference6Ideal.Read.val_main_cst_3, Cert.Reference6Ideal.Read.val_main_cst_4, Cert.Reference6Ideal.Read.val_main_cst_5, Cert.Reference6Ideal.Read.val_main_cst_6, Cert.Reference6Ideal.Read.val_main_cst_7, Cert.Reference6Ideal.Read.val_main_cst_8, Cert.Reference6Ideal.Read.val_main_cst_9, Cert.Reference6Ideal.Read.val_main_cst_10, Cert.Reference6Ideal.Read.val_main_cst_11, Cert.Reference6Ideal.Read.val_main_cst_12, Cert.Reference6Ideal.Read.val_main_cst_13, Cert.Reference6Ideal.Read.val_main_cst_14, Cert.Reference6Ideal.Read.val_main_cst_15, Cert.Reference6Ideal.Read.val_main_cst_16, Cert.Reference6Ideal.Read.val_main_cst_17, Cert.Reference6Ideal.Read.val_main_cst_18, Cert.Reference6Ideal.Read.val_main_cst_19]
  rfl

/-- The reference's loss. -/
theorem ref78 (x : FVec Ideal Cert.Reference6Ideal.S8192x1024 .f32) (g : FVec Ideal Cert.Reference6Ideal.S1024 .f32)
    (wg wu : FVec Ideal Cert.Reference6Ideal.S1024x2816 .f32) (wd : FVec Ideal Cert.Reference6Ideal.S2816x1024 .f32) (gf : FVec Ideal Cert.Reference6Ideal.S1024 .f32) (t : FVec Ideal Cert.Reference6Ideal.S8192x1024 .f32) (i : Fin 8) (j : Fin 128) :
    (Cert.Reference6Ideal.Read.val_main_v78 (F := Ideal) x g wg wu wd gf t (ix2 i j) : EReal)
      = Ideal.ofBits .f32 0x3F000000#32 * ∑ a, tokLoss (Yr x g wg wu wd a) (fun l => gf (ix1 l)) (fun l => t (ix2 a l)) := by
  simp only [tokLoss, ← ref37]
  pointwise [Cert.Reference6Ideal.Read.val_main_v45, Cert.Reference6Ideal.Read.val_main_v44, Cert.Reference6Ideal.Read.val_main_v43, Cert.Reference6Ideal.Read.val_main_v42, Cert.Reference6Ideal.Read.val_main_v41, Cert.Reference6Ideal.Read.val_main_v40, Cert.Reference6Ideal.Read.val_main_v39, Cert.Reference6Ideal.Read.val_main_v38, Cert.Reference6Ideal.Read.val_main_cst, Cert.Reference6Ideal.Read.val_main_cst_1, Cert.Reference6Ideal.Read.val_main_cst_2, Cert.Reference6Ideal.Read.val_main_cst_3, Cert.Reference6Ideal.Read.val_main_cst_4, Cert.Reference6Ideal.Read.val_main_cst_5, Cert.Reference6Ideal.Read.val_main_cst_6, Cert.Reference6Ideal.Read.val_main_cst_7, Cert.Reference6Ideal.Read.val_main_cst_8, Cert.Reference6Ideal.Read.val_main_cst_9, Cert.Reference6Ideal.Read.val_main_cst_10, Cert.Reference6Ideal.Read.val_main_cst_11, Cert.Reference6Ideal.Read.val_main_cst_12, Cert.Reference6Ideal.Read.val_main_cst_13, Cert.Reference6Ideal.Read.val_main_cst_14, Cert.Reference6Ideal.Read.val_main_cst_15, Cert.Reference6Ideal.Read.val_main_cst_16, Cert.Reference6Ideal.Read.val_main_cst_17, Cert.Reference6Ideal.Read.val_main_cst_18, Cert.Reference6Ideal.Read.val_main_cst_19, Cert.Reference6Ideal.Read.val_main_v78]
  done

/-- Half the mean square's derivative is the error over the width. -/
theorem dcoef (e : EReal) :
    Ideal.div (Ideal.ofBits .f32 0x3F000000#32) (Ideal.ofBits .f32 0x44800000#32) * (Ideal.ofBits .f32 0x40000000#32 * e)
      = e * Ideal.ofBits .f32 0x3A800000#32 := by
  have h1 : Ideal.ofBits .f32 0x3F000000#32 = ((1 / 2 : ℝ) : EReal) := by
    simp [Ideal.ofBits, Ideal.ieee]; rw [← EReal.coe_mul]; norm_num
  have h2 : Ideal.ofBits .f32 0x40000000#32 = ((2 : ℝ) : EReal) := by
    simp [Ideal.ofBits, Ideal.ieee]; rw [← EReal.coe_mul]; norm_num
  have h3 : Ideal.ofBits .f32 0x3A800000#32 = ((1 / 1024 : ℝ) : EReal) := by
    simp [Ideal.ofBits, Ideal.ieee]; rw [← EReal.coe_mul]; norm_num
  rw [h1, h2, h3, Cert.RmsLaw.bits_1024, Ideal.div_coe (by norm_num), ← mul_assoc, ← EReal.coe_mul, ← EReal.coe_mul, mul_comm e]
  congr 2
  norm_num

/-- The reference's gradient of the error. -/
theorem ref51 (x : FVec Ideal Cert.Reference6Ideal.S8192x1024 .f32) (g : FVec Ideal Cert.Reference6Ideal.S1024 .f32)
    (wg wu : FVec Ideal Cert.Reference6Ideal.S1024x2816 .f32) (wd : FVec Ideal Cert.Reference6Ideal.S2816x1024 .f32) (gf : FVec Ideal Cert.Reference6Ideal.S1024 .f32) (t : FVec Ideal Cert.Reference6Ideal.S8192x1024 .f32) (a : Fin 8192) (l : Fin 1024) :
    (Cert.Reference6Ideal.Read.val_main_v51 (F := Ideal) x g wg wu wd gf t (ix2 a l) : EReal)
      = derr (Yr x g wg wu wd a) (fun l => gf (ix1 l)) (fun l => t (ix2 a l)) l := by
  simp only [derr, ← ref37]
  pointwise [Cert.Reference6Ideal.Read.val_main_v51, Cert.Reference6Ideal.Read.val_main_v50, Cert.Reference6Ideal.Read.val_main_v49, Cert.Reference6Ideal.Read.val_main_v48, Cert.Reference6Ideal.Read.val_main_v47, Cert.Reference6Ideal.Read.val_main_v46, Cert.Reference6Ideal.Read.val_main_v45, Cert.Reference6Ideal.Read.val_main_v44, Cert.Reference6Ideal.Read.val_main_v43, Cert.Reference6Ideal.Read.val_main_v42, Cert.Reference6Ideal.Read.val_main_v41, Cert.Reference6Ideal.Read.val_main_v40, Cert.Reference6Ideal.Read.val_main_v39, Cert.Reference6Ideal.Read.val_main_v38, Cert.Reference6Ideal.Read.val_main_cst, Cert.Reference6Ideal.Read.val_main_cst_1, Cert.Reference6Ideal.Read.val_main_cst_2, Cert.Reference6Ideal.Read.val_main_cst_3, Cert.Reference6Ideal.Read.val_main_cst_4, Cert.Reference6Ideal.Read.val_main_cst_5, Cert.Reference6Ideal.Read.val_main_cst_6, Cert.Reference6Ideal.Read.val_main_cst_7, Cert.Reference6Ideal.Read.val_main_cst_8, Cert.Reference6Ideal.Read.val_main_cst_9, Cert.Reference6Ideal.Read.val_main_cst_10, Cert.Reference6Ideal.Read.val_main_cst_11, Cert.Reference6Ideal.Read.val_main_cst_12, Cert.Reference6Ideal.Read.val_main_cst_13, Cert.Reference6Ideal.Read.val_main_cst_14, Cert.Reference6Ideal.Read.val_main_cst_15, Cert.Reference6Ideal.Read.val_main_cst_16, Cert.Reference6Ideal.Read.val_main_cst_17, Cert.Reference6Ideal.Read.val_main_cst_18, Cert.Reference6Ideal.Read.val_main_cst_19]
  exact dcoef _

/-- The reference's gradient of the last scale. -/
theorem ref79 (x : FVec Ideal Cert.Reference6Ideal.S8192x1024 .f32) (g : FVec Ideal Cert.Reference6Ideal.S1024 .f32)
    (wg wu : FVec Ideal Cert.Reference6Ideal.S1024x2816 .f32) (wd : FVec Ideal Cert.Reference6Ideal.S2816x1024 .f32) (gf : FVec Ideal Cert.Reference6Ideal.S1024 .f32) (t : FVec Ideal Cert.Reference6Ideal.S8192x1024 .f32) (u : Fin 1) (l : Fin 1024) :
    (Cert.Reference6Ideal.Read.val_main_v79 (F := Ideal) x g wg wu wd gf t (ix2 u l) : EReal)
      = ∑ a, tokGain (Yr x g wg wu wd a) (fun l => gf (ix1 l)) (fun l => t (ix2 a l)) l := by
  simp only [tokGain, ← ref51]
  pointwise [Cert.Reference6Ideal.Read.val_main_v57, Cert.Reference6Ideal.Read.val_main_v56, Cert.Reference6Ideal.Read.val_main_v36, Cert.Reference6Ideal.Read.val_main_v35, Cert.Reference6Ideal.Read.val_main_v34, Cert.Reference6Ideal.Read.val_main_v33, Cert.Reference6Ideal.Read.val_main_v32, Cert.Reference6Ideal.Read.val_main_v31, Cert.Reference6Ideal.Read.val_main_v30, Cert.Reference6Ideal.Read.val_main_v29, Cert.Reference6Ideal.Read.val_main_v28, Cert.Reference6Ideal.Read.val_main_v27, Cert.Reference6Ideal.Read.val_main_v26, Cert.Reference6Ideal.Read.val_main_v25, Cert.Reference6Ideal.Read.val_main_v24, Cert.Reference6Ideal.Read.val_main_v23, Cert.Reference6Ideal.Read.val_main_v22, Cert.Reference6Ideal.Read.val_main_v21, Cert.Reference6Ideal.Read.val_main_cst, Cert.Reference6Ideal.Read.val_main_cst_1, Cert.Reference6Ideal.Read.val_main_cst_2, Cert.Reference6Ideal.Read.val_main_cst_3, Cert.Reference6Ideal.Read.val_main_cst_4, Cert.Reference6Ideal.Read.val_main_cst_5, Cert.Reference6Ideal.Read.val_main_cst_6, Cert.Reference6Ideal.Read.val_main_cst_7, Cert.Reference6Ideal.Read.val_main_cst_8, Cert.Reference6Ideal.Read.val_main_cst_9, Cert.Reference6Ideal.Read.val_main_cst_10, Cert.Reference6Ideal.Read.val_main_cst_11, Cert.Reference6Ideal.Read.val_main_cst_12, Cert.Reference6Ideal.Read.val_main_cst_13, Cert.Reference6Ideal.Read.val_main_cst_14, Cert.Reference6Ideal.Read.val_main_cst_15, Cert.Reference6Ideal.Read.val_main_cst_16, Cert.Reference6Ideal.Read.val_main_cst_17, Cert.Reference6Ideal.Read.val_main_cst_18, Cert.Reference6Ideal.Read.val_main_cst_19, Cert.Reference6Ideal.Read.val_main_v55, Cert.Reference6Ideal.Read.val_main_v54, Cert.Reference6Ideal.Read.val_main_v53, Cert.Reference6Ideal.Read.val_main_v52, Cert.Reference6Ideal.Read.val_main_cst, Cert.Reference6Ideal.Read.val_main_cst_1, Cert.Reference6Ideal.Read.val_main_cst_2, Cert.Reference6Ideal.Read.val_main_cst_3, Cert.Reference6Ideal.Read.val_main_cst_4, Cert.Reference6Ideal.Read.val_main_cst_5, Cert.Reference6Ideal.Read.val_main_cst_6, Cert.Reference6Ideal.Read.val_main_cst_7, Cert.Reference6Ideal.Read.val_main_cst_8, Cert.Reference6Ideal.Read.val_main_cst_9, Cert.Reference6Ideal.Read.val_main_cst_10, Cert.Reference6Ideal.Read.val_main_cst_11, Cert.Reference6Ideal.Read.val_main_cst_12, Cert.Reference6Ideal.Read.val_main_cst_13, Cert.Reference6Ideal.Read.val_main_cst_14, Cert.Reference6Ideal.Read.val_main_cst_15, Cert.Reference6Ideal.Read.val_main_cst_16, Cert.Reference6Ideal.Read.val_main_cst_17, Cert.Reference6Ideal.Read.val_main_cst_18, Cert.Reference6Ideal.Read.val_main_cst_19, Cert.Reference6Ideal.Read.val_main_v79]
  simp only [Finset.univ_unique, Finset.sum_const, Finset.card_singleton, one_smul]
  exact Finset.sum_congr rfl fun a _ => mul_comm _ _

theorem e1 : @k0_pay46 Ideal _ = k0_pay45 := rfl
theorem e2 : @k0_pay51 Ideal _ = k0_pay45 := rfl
theorem e2b : @k0_pay52 Ideal _ = k0_pay45 := rfl
theorem e2c : @k0_pay57 Ideal _ = k0_pay45 := rfl
theorem e2d : @k0_pay65 Ideal _ = k0_pay45 := rfl
theorem e3 (h wg wu v wd) : @k0_pay54 Ideal _ (k0_pay53 h wg wu) v wd = k0_pay48 (k0_pay47 h wg wu) v wd := rfl
theorem e4 (h wg wu v wd) : @k0_pay61 Ideal _ (k0_pay59 h wg wu) v (k0_pay60 wd) (constant S256x1024 .f32 0x00000000#32) = k0_pay48 (k0_pay47 h wg wu) v wd := rfl
theorem e5 (h wg wu v wd) : k0_pay1 (F := Ideal) (k0_pay66 h wg wu v wd) = k0_pay48 (F := Ideal) (k0_pay47 h wg wu) v wd := rfl

end Cert.Ffn2
-- ==== Proof.Ffn2Grad.lean ====
module

public import proofs.«01_k».proof.Proof.Gen.Kernel6Ideal.Skeleton
public import proofs.«01_k».proof.Proof.Gen.Reference6Ideal.Read
public import proofs.«01_k».proof.Proof.Ffn2Pure
public import proofs.«01_k».proof.Proof.RmsLaw

set_option maxRecDepth 16384

@[expose] public section

noncomputable section

open Idealize.ShloMosaic Idealize.ShloMosaic.TcCoe Idealize.SL.Sem

namespace Cert.Ffn2

open Cert.Kernel6Ideal Cert.Kernel6Ideal.Gen Cert.FfnMath

/-- The reference's gradient at the tokens. -/
theorem ref71 (x : FVec Ideal Cert.Reference6Ideal.S8192x1024 .f32) (g : FVec Ideal Cert.Reference6Ideal.S1024 .f32)
    (wg wu : FVec Ideal Cert.Reference6Ideal.S1024x2816 .f32) (wd : FVec Ideal Cert.Reference6Ideal.S2816x1024 .f32) (gf : FVec Ideal Cert.Reference6Ideal.S1024 .f32) (t : FVec Ideal Cert.Reference6Ideal.S8192x1024 .f32) (a : Fin 8192) (l : Fin 1024) :
    (Cert.Reference6Ideal.Read.val_main_v71 (F := Ideal) x g wg wu wd gf t (ix2 a l) : EReal)
      = tokGrad (Yr x g wg wu wd a) (fun l => gf (ix1 l)) (fun l => t (ix2 a l)) l := by
  obtain ⟨e, he, hE⟩ := Cert.RmsLaw.bits_eps
  have key := Cert.RmsLaw.rms_grad (fun l => Cert.Reference6Ideal.Read.val_main_v20 (F := Ideal) x g wg wu wd (ix2 a l))
    (fun i => Cert.Reference6Ideal.Read.val_main_v51 (F := Ideal) x g wg wu wd gf t (ix2 a i) * gf (ix1 i)) l 0
    Cert.RmsLaw.bits_1024 (by norm_num) hE he Cert.RmsLaw.bits_half
  dsimp only at key
  rw [zero_add, zero_add] at key
  simp only [tokGrad, ← ref51]
  refine Eq.trans ?_ key.symm
  clear key hE he
  pointwise [Cert.Reference6Ideal.Read.val_main_v36, Cert.Reference6Ideal.Read.val_main_v35, Cert.Reference6Ideal.Read.val_main_v34, Cert.Reference6Ideal.Read.val_main_v33, Cert.Reference6Ideal.Read.val_main_v32, Cert.Reference6Ideal.Read.val_main_v31, Cert.Reference6Ideal.Read.val_main_v30, Cert.Reference6Ideal.Read.val_main_v29, Cert.Reference6Ideal.Read.val_main_v28, Cert.Reference6Ideal.Read.val_main_v27, Cert.Reference6Ideal.Read.val_main_v26, Cert.Reference6Ideal.Read.val_main_v25, Cert.Reference6Ideal.Read.val_main_v24, Cert.Reference6Ideal.Read.val_main_v23, Cert.Reference6Ideal.Read.val_main_v22, Cert.Reference6Ideal.Read.val_main_v21, Cert.Reference6Ideal.Read.val_main_cst, Cert.Reference6Ideal.Read.val_main_cst_1, Cert.Reference6Ideal.Read.val_main_cst_2, Cert.Reference6Ideal.Read.val_main_cst_3, Cert.Reference6Ideal.Read.val_main_cst_4, Cert.Reference6Ideal.Read.val_main_cst_5, Cert.Reference6Ideal.Read.val_main_cst_6, Cert.Reference6Ideal.Read.val_main_cst_7, Cert.Reference6Ideal.Read.val_main_cst_8, Cert.Reference6Ideal.Read.val_main_cst_9, Cert.Reference6Ideal.Read.val_main_cst_10, Cert.Reference6Ideal.Read.val_main_cst_11, Cert.Reference6Ideal.Read.val_main_cst_12, Cert.Reference6Ideal.Read.val_main_cst_13, Cert.Reference6Ideal.Read.val_main_cst_14, Cert.Reference6Ideal.Read.val_main_cst_15, Cert.Reference6Ideal.Read.val_main_cst_16, Cert.Reference6Ideal.Read.val_main_cst_17, Cert.Reference6Ideal.Read.val_main_cst_18, Cert.Reference6Ideal.Read.val_main_cst_19, Cert.Reference6Ideal.Read.val_main_v71, Cert.Reference6Ideal.Read.val_main_v70, Cert.Reference6Ideal.Read.val_main_v69, Cert.Reference6Ideal.Read.val_main_v68, Cert.Reference6Ideal.Read.val_main_v67, Cert.Reference6Ideal.Read.val_main_v66, Cert.Reference6Ideal.Read.val_main_v65, Cert.Reference6Ideal.Read.val_main_v64, Cert.Reference6Ideal.Read.val_main_v63, Cert.Reference6Ideal.Read.val_main_v62, Cert.Reference6Ideal.Read.val_main_v61, Cert.Reference6Ideal.Read.val_main_v60, Cert.Reference6Ideal.Read.val_main_v59, Cert.Reference6Ideal.Read.val_main_v58, Cert.Reference6Ideal.Read.val_main_v57, Cert.Reference6Ideal.Read.val_main_v56, Cert.Reference6Ideal.Read.val_main_v55, Cert.Reference6Ideal.Read.val_main_v54, Cert.Reference6Ideal.Read.val_main_v53, Cert.Reference6Ideal.Read.val_main_v52, Cert.Reference6Ideal.Read.val_main_cst, Cert.Reference6Ideal.Read.val_main_cst_1, Cert.Reference6Ideal.Read.val_main_cst_2, Cert.Reference6Ideal.Read.val_main_cst_3, Cert.Reference6Ideal.Read.val_main_cst_4, Cert.Reference6Ideal.Read.val_main_cst_5, Cert.Reference6Ideal.Read.val_main_cst_6, Cert.Reference6Ideal.Read.val_main_cst_7, Cert.Reference6Ideal.Read.val_main_cst_8, Cert.Reference6Ideal.Read.val_main_cst_9, Cert.Reference6Ideal.Read.val_main_cst_10, Cert.Reference6Ideal.Read.val_main_cst_11, Cert.Reference6Ideal.Read.val_main_cst_12, Cert.Reference6Ideal.Read.val_main_cst_13, Cert.Reference6Ideal.Read.val_main_cst_14, Cert.Reference6Ideal.Read.val_main_cst_15, Cert.Reference6Ideal.Read.val_main_cst_16, Cert.Reference6Ideal.Read.val_main_cst_17, Cert.Reference6Ideal.Read.val_main_cst_18, Cert.Reference6Ideal.Read.val_main_cst_19]
  simp only [Finset.univ_unique, Finset.sum_const, Finset.card_singleton, one_smul]

end Cert.Ffn2
-- ==== Proof.Ffn2Mid.lean ====
module

public import proofs.«01_k».proof.Proof.Gen.Kernel6Ideal.Value
public import proofs.«01_k».proof.Proof.Ffn2Grad
public import Idealize.ShloMosaic.Lib.Pipeline.ValueKit
public import Idealize.ShloMosaic.Lib.Pipeline.ReadBack

set_option maxRecDepth 16384

@[expose] public section

noncomputable section

open Idealize.ShloMosaic Idealize.ShloMosaic.TcCoe Idealize.SL.Sem

namespace Cert.Ffn2

open Cert.Kernel6Ideal Cert.Kernel6Ideal.Gen Cert.FfnMath

variable (m : (ℓ : Loc nD τ sig) → Buf (Elt Ideal) ℓ)

/-- The tokens. -/
abbrev X (c : Dev nD) : FVec Ideal S8192x1024 .f32 := m ((c : Thread nD τ).loc main_arg0)
/-- The gain. -/
abbrev G (c : Dev nD) : FVec Ideal S1024 .f32 := m ((c : Thread nD τ).loc main_arg1)
/-- The gate's weight. -/
abbrev WG (c : Dev nD) : FVec Ideal S1024x2816 .f32 := m ((c : Thread nD τ).loc main_arg2)
/-- The up projection's weight. -/
abbrev WU (c : Dev nD) : FVec Ideal S1024x2816 .f32 := m ((c : Thread nD τ).loc main_arg3)
/-- The down projection's weight. -/
abbrev WD (c : Dev nD) : FVec Ideal S2816x1024 .f32 := m ((c : Thread nD τ).loc main_arg4)

/-- The last scale. -/
abbrev GF (c : Dev nD) : FVec Ideal S1024 .f32 := m ((c : Thread nD τ).loc main_arg5)
/-- The target. -/
abbrev TT (c : Dev nD) : FVec Ideal S8192x1024 .f32 := m ((c : Thread nD τ).loc main_arg6)

/-- The block every window shows at a grid point. -/
theorem idx : ∀ t : Fin cfg0.N, win0_0.index t = ![t.val / 4, 0]
    ∧ win0_1.index t = ![0, 0]
    ∧ win0_2.index t = ![0, t.val % 4, 0, 0]
    ∧ win0_3.index t = ![1, t.val % 4, 0, 0]
    ∧ win0_4.index t = ![2, t.val % 4, 0, 0]
    ∧ win0_5.index t = ![0, 0]
    ∧ win0_6.index t = ![t.val / 4, 0]
    ∧ win0_7.index t = ![t.val / 4, 0]
    ∧ win0_8.index t = ![t.val % 4, t.val / 4, 0]
    ∧ win0_9.index t = ![t.val % 4, t.val / 4, 0]
    ∧ win0_10.index t = ![0, 0]
    ∧ win0_11.index t = ![0, 0] :=
  (by decide +kernel : ∀ t : Fin grid0.N, _)

/-- The token row `r` of a grid point's block in the whole array. -/
@[reducible] def row (t : Fin cfg0.N) (r : Fin 1024) : Fin 8192 :=
  ⟨t.val / 4 * 1024 + r.val, by have := lt_of_lt_of_eq t.isLt (show cfg0.N = 32 from N_0); omega⟩
/-- The hidden column `f` of a grid point's block in the whole array. -/
@[reducible] def col (t : Fin cfg0.N) (f : Fin 704) : Fin 2816 := ⟨t.val % 4 * 704 + f.val, by omega⟩

/-- The tokens' block. -/
theorem rb0 (c : Dev nD) (t : Fin cfg0.N) (r l : Fin 1024) : iblk m c 0 t (ix2 r l) = X m c (ix2 (row t r) l) := by
  blk_simp [iblk, idx t]
  entry_read
  blk_ext [idx t]

/-- The gain's block. -/
theorem rb1 (c : Dev nD) (t : Fin cfg0.N) (u : Fin 1) (l : Fin 1024) : iblk m c 1 t (ix2 u l) = G m c (ix1 l) := by
  blk_simp [iblk, idx t]
  entry_read
  pointwise
  blk_ext [idx t]

/-- The host's weights: the three matrices in four blocks of hidden columns, one matrix after the other. -/
def stack (wg wu : FVec Ideal S1024x2816 .f32) (wd : FVec Ideal S2816x1024 .f32) : FVec Ideal S3x4x704x1024 .bf16 :=
  truncf .bf16 (concatenate S3x4x704x1024 0
    [⟨S1x4x704x1024, broadcastInDim S1x4x704x1024 ![1, 2, 3] bcast_S4x704x1024_S1x4x704x1024_1_2_3 (shapeCast S4x704x1024 (transpose S2816x1024 [1, 0] wg transposes_S1024x2816_S2816x1024_1_0) shapeCasts_S2816x1024_S4x704x1024)⟩,
     ⟨S1x4x704x1024, broadcastInDim S1x4x704x1024 ![1, 2, 3] bcast_S4x704x1024_S1x4x704x1024_1_2_3 (shapeCast S4x704x1024 (transpose S2816x1024 [1, 0] wu transposes_S1024x2816_S2816x1024_1_0) shapeCasts_S2816x1024_S4x704x1024)⟩,
     ⟨S1x4x704x1024, broadcastInDim S1x4x704x1024 ![1, 2, 3] bcast_S4x704x1024_S1x4x704x1024_1_2_3 (shapeCast S4x704x1024 wd shapeCasts_S2816x1024_S4x704x1024)⟩]
    concatenates_S1x4x704x1024_S1x4x704x1024_S1x4x704x1024_S3x4x704x1024_d0) bitsLt_bf16_f32

/-- What the host hands to the call. -/
theorem v10 (c : Dev nD) : V m c main_v10 = stack (WG m c) (WU m c) (WD m c) := by
  rfl

/-- The first matrix is the gate's. -/
theorem stack0 (wg wu : FVec Ideal S1024x2816 .f32) (wd : FVec Ideal S2816x1024 .f32) (j : Fin 4) (f : Fin 704) (l : Fin 1024) :
    stack wg wu wd (ix4 0 j f l) = wg (ix2 l ⟨j.val * 704 + f, by omega⟩) := by
  pointwise [stack]

/-- The second is the up projection's. -/
theorem stack1 (wg wu : FVec Ideal S1024x2816 .f32) (wd : FVec Ideal S2816x1024 .f32) (j : Fin 4) (f : Fin 704) (l : Fin 1024) :
    stack wg wu wd (ix4 1 j f l) = wu (ix2 l ⟨j.val * 704 + f, by omega⟩) := by
  pointwise [stack]

/-- The third is the down projection's. -/
theorem stack2 (wg wu : FVec Ideal S1024x2816 .f32) (wd : FVec Ideal S2816x1024 .f32) (j : Fin 4) (f : Fin 704) (l : Fin 1024) :
    stack wg wu wd (ix4 2 j f l) = wd (ix2 ⟨j.val * 704 + f, by omega⟩ l) := by
  pointwise [stack]

/-- The gate's block. -/
theorem rb2 (c : Dev nD) (t : Fin cfg0.N) (f : Fin 704) (l : Fin 1024) :
    iblk m c 2 t (ix4 0 0 f l) = WG m c (ix2 l (col t f)) := by
  refine Eq.trans ?_ (stack0 (WG m c) (WU m c) (WD m c) ⟨t.val % 4, by omega⟩ f l)
  blk_simp [iblk, idx t]
  rw [v10]
  blk_ext [idx t]

/-- The up projection's block. -/
theorem rb3 (c : Dev nD) (t : Fin cfg0.N) (f : Fin 704) (l : Fin 1024) :
    iblk m c 3 t (ix4 0 0 f l) = WU m c (ix2 l (col t f)) := by
  refine Eq.trans ?_ (stack1 (WG m c) (WU m c) (WD m c) ⟨t.val % 4, by omega⟩ f l)
  blk_simp [iblk, idx t]
  rw [v10]
  blk_ext [idx t]

/-- The down projection's block. -/
theorem rb4 (c : Dev nD) (t : Fin cfg0.N) (f : Fin 704) (l : Fin 1024) :
    iblk m c 4 t (ix4 0 0 f l) = WD m c (ix2 (col t f) l) := by
  refine Eq.trans ?_ (stack2 (WG m c) (WU m c) (WD m c) ⟨t.val % 4, by omega⟩ f l)
  blk_simp [iblk, idx t]
  rw [v10]
  blk_ext [idx t]

/-- The last scale's block. -/
theorem rb5 (c : Dev nD) (t : Fin cfg0.N) (u : Fin 1) (l : Fin 1024) : iblk m c 5 t (ix2 u l) = GF m c (ix1 l) := by
  blk_simp [iblk, idx t]
  entry_read
  pointwise
  blk_ext [idx t]

/-- The target's block. -/
theorem rb6 (c : Dev nD) (t : Fin cfg0.N) (r l : Fin 1024) : iblk m c 6 t (ix2 r l) = TT m c (ix2 (row t r) l) := by
  blk_simp [iblk, idx t]
  entry_read
  blk_ext [idx t]

/-- A token after the norm. -/
def hrow (c : Dev nD) (a : Fin 8192) : Fin 1024 → EReal := hid (fun l => X m c (ix2 a l)) (fun l => G m c (ix1 l))

/-- The normalised tokens of a block. -/
theorem hb_fill (c : Dev nD) (t : Fin cfg0.N) (r l : Fin 1024) :
    (k0_pay39 (F := Ideal) (iblk m c 0 t) (iblk m c 1 t) (ix2 r l) : EReal) = hrow m c (row t r) l := by
  refine (hpay _ _ _ _).trans ?_
  simp only [rb0, rb1]; rfl

/-- The normalised tokens at the first point of a run. -/
theorem hb_A (c : Dev nD) (t : Fin cfg0.N) (h0 : t.val % 4 = 0) (r l : Fin 1024) :
    (outsAt0 m c t.val t.isLt).2.2.2.2.2.1 (ix2 r l) = hrow m c (row t r) l := by
  by_cases h1 : t.val % 32 = 0
  · rw [outsAt0_A m c t h0 h1 (by omega)]; frame_out
    exact hb_fill m c t r l
  · rw [outsAt0_D m c t h0 h1 (by omega)]; frame_out
    exact hb_fill m c t r l

/-- The normalised tokens stay what they are within a run. -/
theorem hb (c : Dev nD) : ∀ (n : Nat) (h : n < cfg0.N) (r l : Fin 1024),
    (outsAt0 m c n h).2.2.2.2.2.1 (ix2 r l) = hrow m c (row ⟨n, h⟩ r) l := by
  intro n
  induction n with
  | zero => exact fun h r l => hb_A m c ⟨0, h⟩ rfl r l
  | succ k ih =>
    intro h r l
    by_cases h0 : (k + 1) % 4 = 0
    · exact hb_A m c ⟨k + 1, h⟩ h0 r l
    · have hr : row ⟨k, Nat.lt_of_succ_lt h⟩ r = row ⟨k + 1, h⟩ r := Fin.ext (by simp only; omega)
      rw [← hr, ← ih]
      by_cases h1 : (k + 1) % 4 = 3
      · rw [outsAt0_C m c ⟨k + 1, h⟩ h0 (by simp only; omega) h1]; simp only [sout0_C_0]; rfl
      · rw [outsAt0_B m c ⟨k + 1, h⟩ h0 (by simp only; omega) h1]; simp only [sout0_B_0]; rfl

/-- So a later point of a run finds them as its own. -/
theorem hb_prev (c : Dev nD) (t : Fin cfg0.N) (h0 : ¬ t.val % 4 = 0) (r l : Fin 1024) :
    (outsAt0 m c (t.val - 1) (Nat.lt_of_le_of_lt (Nat.sub_le _ _) t.isLt)).2.2.2.2.2.1 (ix2 r l) = hrow m c (row t r) l := by
  rw [hb]
  exact congrArg (fun a => hrow m c a l) (Fin.ext (by simp only; omega))

/-- What the hidden column `k` adds to token `a`. -/
def part (c : Dev nD) (a : Fin 8192) (k : Fin 2816) (l : Fin 1024) : EReal :=
  gate (proj (hrow m c a) (fun i => WG m c (ix2 i k))) (proj (hrow m c a) (fun i => WU m c (ix2 i k))) * WD m c (ix2 k l)

/-- What a grid point adds to its block of tokens. -/
def term (c : Dev nD) (t : Fin cfg0.N) (y : S1024x1024.Idx) : EReal := ∑ f : Fin 704, part m c (row t (y 0)) (col t f) (y 1)

/-- A chunk of 256 tokens of a grid point. -/
theorem acc_piece (c : Dev nD) (t : Fin cfg0.N) (q : Fin 4) (K : FVec Ideal S1024x1024 .bf16) (A : FVec Ideal S1024x1024 .f32)
    (hK : ∀ r l, (K (ix2 r l) : EReal) = hrow m c (row t r) l) (h : FVec Ideal S256x1024 .bf16) (v : FVec Ideal S256x1024 .f32)
    (hh : ∀ (r : Fin 256) (l : Fin 1024), (h (ix2 r l) : EReal) = K (ix2 ⟨q.val * 256 + r, by omega⟩ l))
    (hv : ∀ (r : Fin 256) (l : Fin 1024), (v (ix2 r l) : EReal) = A (ix2 ⟨q.val * 256 + r, by omega⟩ l))
    (y : S1024x1024.Idx) (x : S256x1024.Idx) (h0 : (y 0).val = q.val * 256 + (x 0).val) (h1 : (y 1).val = (x 1).val) :
    (k0_pay48 (F := Ideal) (k0_pay47 h (iblk m c 2 t) (iblk m c 3 t)) v (iblk m c 4 t) x : EReal) = A y + term m c t y := by
  idx_vars x
  idx_vars y
  have hq : q.val * 256 + x0.val < 1024 := by
    have h : x0.val < 256 := x0.isLt
    omega
  obtain rfl : y1 = x1 := Fin.ext h1
  obtain rfl : y0 = (⟨q.val * 256 + x0.val, hq⟩ : Fin 1024) := Fin.ext h0
  refine (ppay _ _ _ _ _ _ _).trans ?_
  simp only [hv, hh, hK, rb2, rb3, rb4]
  rfl

/-- A chunk's projection. -/
theorem mid_piece (c : Dev nD) (t : Fin cfg0.N) (q : Fin 4) (K : FVec Ideal S1024x1024 .bf16)
    (hK : ∀ r l, (K (ix2 r l) : EReal) = hrow m c (row t r) l) (h : FVec Ideal S256x1024 .bf16)
    (hh : ∀ (r : Fin 256) (l : Fin 1024), (h (ix2 r l) : EReal) = K (ix2 ⟨q.val * 256 + r, by omega⟩ l))
    (w : FVec Ideal S1x1x704x1024 .bf16) (W : FVec Ideal S1024x2816 .f32) (hw : ∀ f l, (w (ix4 0 0 f l) : EReal) = W (ix2 l (col t f)))
    (y : S1x1024x704.Idx) (x : S1x256x704.Idx) (h0 : (y 1).val = q.val * 256 + (x 1).val) (h1 : (y 2).val = (x 2).val) :
    (k0_pay45 (F := Ideal) h w x : EReal) = proj (hrow m c (row t (y 1))) (fun i => W (ix2 i (col t (y 2)))) := by
  idx_vars x
  idx_vars y
  have hq : q.val * 256 + x1.val < 1024 := by
    have h : x1.val < 256 := x1.isLt
    omega
  obtain rfl : y2 = x2 := Fin.ext h1
  obtain rfl : y1 = (⟨q.val * 256 + x1.val, hq⟩ : Fin 1024) := Fin.ext h0
  refine (apay _ _ _ _ _).trans ?_
  simp only [hh, hK, hw]

/-- The first point of a run starts from zero. -/
theorem acc_A (c : Dev nD) (t : Fin cfg0.N) (h : t.val % 4 = 0) (y : S1024x1024.Idx) :
    (outsAt0 m c t.val t.isLt).2.2.2.2.2.2 y = 0 + term m c t y := by
  by_cases h32 : t.val % 32 = 0
  on_goal 1 => rw [outsAt0_A m c t h h32 (by omega)]; frame_out
  on_goal 2 => rw [outsAt0_D m c t h h32 (by omega)]; frame_out
  all_goals
    simp (disch := decide) only [↓ View.readCov_skip, ↓ View.readCov_cons_toLoadRect, ↓ View.readCov_fill]
    clear h h32
    have hK := hb_fill m c t
    generalize k0_pay39 (F := Ideal) (iblk m c 0 t) (iblk m c 1 t) = K at hK ⊢
    refine (View.canon_append_of_piecesOf (Val := Elt Ideal) (fun y => k0_pay40 (F := Ideal) y + term m c t y) [_] [_, _, _, _]
      ⟨fun x => ?_, fun x => ?_, fun x => ?_, fun x => ?_, trivial⟩ y (View.cover_of_tiled_head _ _ _ (by rfl) y)).trans
      (by idx_vars y; exact congrArg (· + term m c t _) (zpay _ _))
    · refine acc_piece m c t 3 K _ hK _ _ (fun r l => by pointwise) (fun r l => by pointwise) _ x ?_ ?_ <;> simp only [Rect.emb_apply] <;> simp
    · refine acc_piece m c t 2 K _ hK _ _ (fun r l => by pointwise) (fun r l => by pointwise) _ x ?_ ?_ <;> simp only [Rect.emb_apply] <;> simp
    · refine acc_piece m c t 1 K _ hK _ _ (fun r l => by pointwise) (fun r l => by pointwise) _ x ?_ ?_ <;> simp only [Rect.emb_apply] <;> simp
    · refine acc_piece m c t 0 K _ hK _ _ (fun r l => by pointwise) (fun r l => by pointwise) _ x ?_ ?_ <;> simp only [Rect.emb_apply] <;> simp

/-- A middle point adds its part. -/
theorem acc_B (c : Dev nD) (t : Fin cfg0.N) (h0 : ¬ t.val % 4 = 0) (h1 : ¬ t.val % 4 = 3) (y : S1024x1024.Idx) :
    (outsAt0 m c t.val t.isLt).2.2.2.2.2.2 y
      = (outsAt0 m c (t.val - 1) (Nat.lt_of_le_of_lt (Nat.sub_le _ _) t.isLt)).2.2.2.2.2.2 y + term m c t y := by
  rw [outsAt0_B m c t h0 (by omega) h1]; frame_out
  simp only [read_unread_whole]
  have hK := hb_prev m c t h0
  generalize (outsAt0 m c (t.val - 1) (Nat.lt_of_le_of_lt (Nat.sub_le _ _) t.isLt)).2.2.2.2.2.1 = K at hK ⊢
  generalize (outsAt0 m c (t.val - 1) (Nat.lt_of_le_of_lt (Nat.sub_le _ _) t.isLt)).2.2.2.2.2.2 = A
  clear h0 h1
  canon_tiles x h
  case piece0 => exact acc_piece m c t 3 K A hK _ _ (fun r l => by pointwise) (fun r l => by pointwise) y x h0 h1
  case piece1 => exact acc_piece m c t 2 K A hK _ _ (fun r l => by pointwise) (fun r l => by pointwise) y x h0 h1
  case piece2 => exact acc_piece m c t 1 K A hK _ _ (fun r l => by pointwise) (fun r l => by pointwise) y x h0 h1
  case piece3 => exact acc_piece m c t 0 K A hK _ _ (fun r l => by pointwise) (fun r l => by pointwise) y x (by omega) h1

/-- The last point of a run adds its part. -/
theorem acc_C (c : Dev nD) (t : Fin cfg0.N) (h0 : ¬ t.val % 4 = 0) (h1 : t.val % 4 = 3) (y : S1024x1024.Idx) :
    (outsAt0 m c t.val t.isLt).2.2.2.2.2.2 y
      = (outsAt0 m c (t.val - 1) (Nat.lt_of_le_of_lt (Nat.sub_le _ _) t.isLt)).2.2.2.2.2.2 y + term m c t y := by
  rw [outsAt0_C m c t h0 (by omega) h1]; frame_out
  simp only [read_unread_whole]
  have hK := hb_prev m c t h0
  generalize (outsAt0 m c (t.val - 1) (Nat.lt_of_le_of_lt (Nat.sub_le _ _) t.isLt)).2.2.2.2.2.1 = K at hK ⊢
  generalize (outsAt0 m c (t.val - 1) (Nat.lt_of_le_of_lt (Nat.sub_le _ _) t.isLt)).2.2.2.2.2.2 = A
  clear h0 h1
  canon_tiles x h
  case piece0 => exact acc_piece m c t 3 K A hK _ _ (fun r l => by pointwise) (fun r l => by pointwise) y x h0 h1
  case piece1 => exact acc_piece m c t 2 K A hK _ _ (fun r l => by pointwise) (fun r l => by pointwise) y x h0 h1
  case piece2 => exact acc_piece m c t 1 K A hK _ _ (fun r l => by pointwise) (fun r l => by pointwise) y x h0 h1
  case piece3 => exact acc_piece m c t 0 K A hK _ _ (fun r l => by pointwise) (fun r l => by pointwise) y x (by omega) h1

/-- The gate's projection of a grid point. -/
theorem mid_A6 (c : Dev nD) (t : Fin cfg0.N) (h : t.val % 4 = 0) (y : S1x1024x704.Idx) :
    (outsAt0 m c t.val t.isLt).2.1 y = proj (hrow m c (row t (y 1))) (fun i => WG m c (ix2 i (col t (y 2)))) := by
  by_cases h32 : t.val % 32 = 0
  on_goal 1 => rw [outsAt0_A m c t h h32 (by omega)]; frame_out
  on_goal 2 => rw [outsAt0_D m c t h h32 (by omega)]; frame_out
  all_goals
    simp (disch := decide) only [↓ View.readCov_fill]
    clear h h32
    have hK := hb_fill m c t
    generalize k0_pay39 (F := Ideal) (iblk m c 0 t) (iblk m c 1 t) = K at hK ⊢
    canon_tiles x h
    case piece0 => exact mid_piece m c t 3 K hK _ (fun r l => by pointwise) _ _ (rb2 m c t) y x h1 h2
    case piece1 => exact mid_piece m c t 2 K hK _ (fun r l => by pointwise) _ _ (rb2 m c t) y x h1 h2
    case piece2 => exact mid_piece m c t 1 K hK _ (fun r l => by pointwise) _ _ (rb2 m c t) y x h1 h2
    case piece3 => exact mid_piece m c t 0 K hK _ (fun r l => by pointwise) _ _ (rb2 m c t) y x (by omega) h2

/-- The gate's projection of a grid point. -/
theorem mid_B6 (c : Dev nD) (t : Fin cfg0.N) (h0 : ¬ t.val % 4 = 0) (h1 : ¬ t.val % 4 = 3) (y : S1x1024x704.Idx) :
    (outsAt0 m c t.val t.isLt).2.1 y = proj (hrow m c (row t (y 1))) (fun i => WG m c (ix2 i (col t (y 2)))) := by
  rw [outsAt0_B m c t h0 (by omega) h1]; frame_out
  simp only [read_unread_whole]
  have hK := hb_prev m c t h0
  generalize (outsAt0 m c (t.val - 1) (Nat.lt_of_le_of_lt (Nat.sub_le _ _) t.isLt)).2.2.2.2.2.1 = K at hK ⊢
  clear h0 h1
  canon_tiles x h
  case piece0 => exact mid_piece m c t 3 K hK _ (fun r l => by pointwise) _ _ (rb2 m c t) y x h1 h2
  case piece1 => exact mid_piece m c t 2 K hK _ (fun r l => by pointwise) _ _ (rb2 m c t) y x h1 h2
  case piece2 => exact mid_piece m c t 1 K hK _ (fun r l => by pointwise) _ _ (rb2 m c t) y x h1 h2
  case piece3 => exact mid_piece m c t 0 K hK _ (fun r l => by pointwise) _ _ (rb2 m c t) y x (by omega) h2

/-- The gate's projection of a grid point. -/
theorem mid_C6 (c : Dev nD) (t : Fin cfg0.N) (h0 : ¬ t.val % 4 = 0) (h1 : t.val % 4 = 3) (y : S1x1024x704.Idx) :
    (outsAt0 m c t.val t.isLt).2.1 y = proj (hrow m c (row t (y 1))) (fun i => WG m c (ix2 i (col t (y 2)))) := by
  rw [outsAt0_C m c t h0 (by omega) h1]; frame_out
  simp only [read_unread_whole]
  have hK := hb_prev m c t h0
  generalize (outsAt0 m c (t.val - 1) (Nat.lt_of_le_of_lt (Nat.sub_le _ _) t.isLt)).2.2.2.2.2.1 = K at hK ⊢
  clear h0 h1
  canon_tiles x h
  case piece0 => exact mid_piece m c t 3 K hK _ (fun r l => by pointwise) _ _ (rb2 m c t) y x h1 h2
  case piece1 => exact mid_piece m c t 2 K hK _ (fun r l => by pointwise) _ _ (rb2 m c t) y x h1 h2
  case piece2 => exact mid_piece m c t 1 K hK _ (fun r l => by pointwise) _ _ (rb2 m c t) y x h1 h2
  case piece3 => exact mid_piece m c t 0 K hK _ (fun r l => by pointwise) _ _ (rb2 m c t) y x (by omega) h2

/-- The up projection of a grid point. -/
theorem mid_A7 (c : Dev nD) (t : Fin cfg0.N) (h : t.val % 4 = 0) (y : S1x1024x704.Idx) :
    (outsAt0 m c t.val t.isLt).2.2.1 y = proj (hrow m c (row t (y 1))) (fun i => WU m c (ix2 i (col t (y 2)))) := by
  by_cases h32 : t.val % 32 = 0
  on_goal 1 => rw [outsAt0_A m c t h h32 (by omega)]; frame_out
  on_goal 2 => rw [outsAt0_D m c t h h32 (by omega)]; frame_out
  all_goals
    simp (disch := decide) only [↓ View.readCov_fill]
    clear h h32
    have hK := hb_fill m c t
    generalize k0_pay39 (F := Ideal) (iblk m c 0 t) (iblk m c 1 t) = K at hK ⊢
    canon_tiles x h
    case piece0 => exact mid_piece m c t 3 K hK _ (fun r l => by pointwise) _ _ (rb3 m c t) y x h1 h2
    case piece1 => exact mid_piece m c t 2 K hK _ (fun r l => by pointwise) _ _ (rb3 m c t) y x h1 h2
    case piece2 => exact mid_piece m c t 1 K hK _ (fun r l => by pointwise) _ _ (rb3 m c t) y x h1 h2
    case piece3 => exact mid_piece m c t 0 K hK _ (fun r l => by pointwise) _ _ (rb3 m c t) y x (by omega) h2

/-- The up projection of a grid point. -/
theorem mid_B7 (c : Dev nD) (t : Fin cfg0.N) (h0 : ¬ t.val % 4 = 0) (h1 : ¬ t.val % 4 = 3) (y : S1x1024x704.Idx) :
    (outsAt0 m c t.val t.isLt).2.2.1 y = proj (hrow m c (row t (y 1))) (fun i => WU m c (ix2 i (col t (y 2)))) := by
  rw [outsAt0_B m c t h0 (by omega) h1]; frame_out
  simp only [read_unread_whole]
  have hK := hb_prev m c t h0
  generalize (outsAt0 m c (t.val - 1) (Nat.lt_of_le_of_lt (Nat.sub_le _ _) t.isLt)).2.2.2.2.2.1 = K at hK ⊢
  clear h0 h1
  canon_tiles x h
  case piece0 => exact mid_piece m c t 3 K hK _ (fun r l => by pointwise) _ _ (rb3 m c t) y x h1 h2
  case piece1 => exact mid_piece m c t 2 K hK _ (fun r l => by pointwise) _ _ (rb3 m c t) y x h1 h2
  case piece2 => exact mid_piece m c t 1 K hK _ (fun r l => by pointwise) _ _ (rb3 m c t) y x h1 h2
  case piece3 => exact mid_piece m c t 0 K hK _ (fun r l => by pointwise) _ _ (rb3 m c t) y x (by omega) h2

/-- The up projection of a grid point. -/
theorem mid_C7 (c : Dev nD) (t : Fin cfg0.N) (h0 : ¬ t.val % 4 = 0) (h1 : t.val % 4 = 3) (y : S1x1024x704.Idx) :
    (outsAt0 m c t.val t.isLt).2.2.1 y = proj (hrow m c (row t (y 1))) (fun i => WU m c (ix2 i (col t (y 2)))) := by
  rw [outsAt0_C m c t h0 (by omega) h1]; frame_out
  simp only [read_unread_whole]
  have hK := hb_prev m c t h0
  generalize (outsAt0 m c (t.val - 1) (Nat.lt_of_le_of_lt (Nat.sub_le _ _) t.isLt)).2.2.2.2.2.1 = K at hK ⊢
  clear h0 h1
  canon_tiles x h
  case piece0 => exact mid_piece m c t 3 K hK _ (fun r l => by pointwise) _ _ (rb3 m c t) y x h1 h2
  case piece1 => exact mid_piece m c t 2 K hK _ (fun r l => by pointwise) _ _ (rb3 m c t) y x h1 h2
  case piece2 => exact mid_piece m c t 1 K hK _ (fun r l => by pointwise) _ _ (rb3 m c t) y x h1 h2
  case piece3 => exact mid_piece m c t 0 K hK _ (fun r l => by pointwise) _ _ (rb3 m c t) y x (by omega) h2

/-- A point after the first of a run adds its part. -/
theorem acc_step (c : Dev nD) (t : Fin cfg0.N) (h0 : ¬ t.val % 4 = 0) (y : S1024x1024.Idx) :
    (outsAt0 m c t.val t.isLt).2.2.2.2.2.2 y
      = (outsAt0 m c (t.val - 1) (Nat.lt_of_le_of_lt (Nat.sub_le _ _) t.isLt)).2.2.2.2.2.2 y + term m c t y := by
  by_cases h1 : t.val % 4 = 3
  · exact acc_C m c t h0 h1 y
  · exact acc_B m c t h0 h1 y

/-- Over the four points of a run the parts add up to the whole product out. -/
theorem run_sum (c : Dev nD) (t : Fin cfg0.N) (ht : t.val % 4 = 4 - 1) (r l : Fin 1024) :
    ∑ s : Fin 4, term m c ⟨4 * (t.val / 4) + s.val, Pipeline.run_point_lt_of_flush t ht s⟩ (ix2 r l)
      = ∑ k : Fin 2816, part m c (row t r) k l := by
  refine Fin.sum_mul_add_congr fun s k hl => ?_
  have hr : row ⟨4 * (t.val / 4) + s.val, Pipeline.run_point_lt_of_flush t ht s⟩ r = row t r :=
    Fin.ext (by have := s.isLt; simp only; omega)
  have hc : col ⟨4 * (t.val / 4) + s.val, Pipeline.run_point_lt_of_flush t ht s⟩ k = ⟨s.val * 704 + k.val, hl⟩ :=
    Fin.ext (by have := s.isLt; simp only; omega)
  exact congrArg₂ (fun a q => part m c a q l) hr hc

/-- The stored projections at every point. -/
theorem mid6 (c : Dev nD) (t : Fin cfg0.N) (y : S1x1024x704.Idx) :
    (outsAt0 m c t.val t.isLt).2.1 y = proj (hrow m c (row t (y 1))) (fun i => WG m c (ix2 i (col t (y 2)))) := by
  by_cases h0 : t.val % 4 = 0
  · exact mid_A6 m c t h0 y
  · by_cases h1 : t.val % 4 = 3
    · exact mid_C6 m c t h0 h1 y
    · exact mid_B6 m c t h0 h1 y

/-- The stored up projections at every point. -/
theorem mid7 (c : Dev nD) (t : Fin cfg0.N) (y : S1x1024x704.Idx) :
    (outsAt0 m c t.val t.isLt).2.2.1 y = proj (hrow m c (row t (y 1))) (fun i => WU m c (ix2 i (col t (y 2)))) := by
  by_cases h0 : t.val % 4 = 0
  · exact mid_A7 m c t h0 y
  · by_cases h1 : t.val % 4 = 3
    · exact mid_C7 m c t h0 h1 y
    · exact mid_B7 m c t h0 h1 y

/-- The gate's projection after the call is the reference's. -/
theorem final8 (c : Dev nD) : (dats m 0 c).arrAt 8 (cfgs 0).N
    = Cert.Reference6Ideal.Read.val_main_v74 (F := Ideal) (X m c) (G m c) (WG m c) := by
  refine (dats m 0 c).arrAt_eq_of_covers 8 _ (by decide +kernel) fun t hf y => ?_
  refine Eq.trans ?_ (show Cert.Reference6Ideal.Read.val_main_v74 (F := Ideal) (X m c) (G m c) (WG m c) (ix3 ⟨t.val % 4, by omega⟩ (row t (y 1)) (y 2)) = _ from ?_)
  · blk_simp
    rw [after0_8]
    idx_vars y
    rw [mid6 m c t]
    exact (ref23 (X m c) (G m c) (WG m c) ⟨t.val % 4, by omega⟩ (row t y1) y2).symm
  · blk_ext [idx t]

/-- The up projection after the call is the reference's. -/
theorem final9 (c : Dev nD) : (dats m 0 c).arrAt 9 (cfgs 0).N
    = Cert.Reference6Ideal.Read.val_main_v77 (F := Ideal) (X m c) (G m c) (WU m c) := by
  refine (dats m 0 c).arrAt_eq_of_covers 9 _ (by decide +kernel) fun t hf y => ?_
  rw [ref26]
  refine Eq.trans ?_ (show Cert.Reference6Ideal.Read.val_main_v74 (F := Ideal) (X m c) (G m c) (WU m c) (ix3 ⟨t.val % 4, by omega⟩ (row t (y 1)) (y 2)) = _ from ?_)
  · blk_simp
    rw [after0_9]
    idx_vars y
    rw [mid7 m c t]
    exact (ref23 (X m c) (G m c) (WU m c) ⟨t.val % 4, by omega⟩ (row t y1) y2).symm
  · blk_ext [idx t]

end Cert.Ffn2
-- ==== Proof.Ffn2Head.lean ====
module

public import proofs.«01_k».proof.Proof.Ffn2Mid

set_option maxRecDepth 16384

@[expose] public section

noncomputable section

open Idealize.ShloMosaic Idealize.ShloMosaic.TcCoe Idealize.SL.Sem

namespace Cert.Ffn2

open Cert.Kernel6Ideal Cert.Kernel6Ideal.Gen Cert.FfnMath

variable (m : (ℓ : Loc nD τ sig) → Buf (Elt Ideal) ℓ)

/-- The residual sum of a token. -/
def yv (c : Dev nD) (a : Fin 8192) : Fin 1024 → EReal :=
  fun l => X m c (ix2 a l) + Ideal.ofBits .f32 0x3F000000#32 * ∑ k : Fin 2816, part m c a k l

/-- The last scale as a row. -/
def gfv (c : Dev nD) : Fin 1024 → EReal := fun l => GF m c (ix1 l)

/-- The target of a token. -/
def tv (c : Dev nD) (a : Fin 8192) : Fin 1024 → EReal := fun l => TT m c (ix2 a l)

/-- The reference's residual sum is the same. -/
theorem yv_ref (c : Dev nD) (a : Fin 8192) : Yr (X m c) (G m c) (WG m c) (WU m c) (WD m c) a = yv m c a := by
  funext l
  exact ref20 (X m c) (G m c) (WG m c) (WU m c) (WD m c) a l

/-- The last scale's row as every chunk reads it. -/
theorem gv_blk (c : Dev nD) (t : Fin cfg0.N) : gv (iblk m c 5 t) = gfv m c := by
  funext l
  exact rb5 m c t 0 l

/-- The row of a chunk's token. -/
@[reducible] def crow (t : Fin cfg0.N) (q : Fin 4) (r : Fin 256) : Fin 8192 := row t ⟨q.val * 256 + r.val, by omega⟩

/-- A chunk's targets. -/
theorem tv_blk (c : Dev nD) (t : Fin cfg0.N) (q : Fin 4) (u : FVec Ideal S256x1024 .f32)
    (hu : ∀ (r : Fin 256) (l : Fin 1024), (u (ix2 r l) : EReal) = iblk m c 6 t (ix2 ⟨q.val * 256 + r, by omega⟩ l)) :
    rw2 u = fun r => tv m c (crow t q r) := by
  funext r l
  exact (hu r l).trans (rb6 m c t _ l)

/-- What the accumulator holds after the last point of a run. -/
theorem acc_total (c : Dev nD) (t : Fin cfg0.N) (ht : t.val % 4 = 4 - 1) (r l : Fin 1024) :
    (outsAt0 m c (t.val - 1) (Nat.lt_of_le_of_lt (Nat.sub_le _ _) t.isLt)).2.2.2.2.2.2 (ix2 r l) + term m c t (ix2 r l)
      = ∑ k : Fin 2816, part m c (row t r) k l := by
  rw [← acc_C m c t (by omega) (by omega), Pipeline.eq_sum_fin_of_reset_step_apply_of_flush (fun n h => (outsAt0 m c n h).2.2.2.2.2.2) 4 (fun _ => 0)
      (term m c) (fun t h y => acc_A m c t h y) (fun t h y => acc_step m c t h y) t ht _, zero_add, run_sum m c t ht]

/-- A chunk's residual sums, made of its tokens and its accumulator. -/
theorem yr_piece (c : Dev nD) (t : Fin cfg0.N) (ht : t.val % 4 = 4 - 1) (q : Fin 4) (K : FVec Ideal S1024x1024 .bf16) (A : FVec Ideal S1024x1024 .f32)
    (hK : ∀ r l, (K (ix2 r l) : EReal) = hrow m c (row t r) l)
    (hA : ∀ (r l : Fin 1024), (A (ix2 r l) : EReal) + term m c t (ix2 r l) = ∑ k : Fin 2816, part m c (row t r) k l)
    (x : FVec Ideal S256x1024 .f32) (h : FVec Ideal S256x1024 .bf16) (v : FVec Ideal S256x1024 .f32)
    (hx : ∀ (r : Fin 256) (l : Fin 1024), (x (ix2 r l) : EReal) = iblk m c 0 t (ix2 ⟨q.val * 256 + r, by omega⟩ l))
    (hh : ∀ (r : Fin 256) (l : Fin 1024), (h (ix2 r l) : EReal) = K (ix2 ⟨q.val * 256 + r, by omega⟩ l))
    (hv : ∀ (r : Fin 256) (l : Fin 1024), (v (ix2 r l) : EReal) = A (ix2 ⟨q.val * 256 + r, by omega⟩ l)) :
    yr x (k0_pay48 (F := Ideal) (k0_pay47 h (iblk m c 2 t) (iblk m c 3 t)) v (iblk m c 4 t)) = fun r => yv m c (crow t q r) := by
  funext r l
  refine congrArg₂ (fun a b : EReal => a + Ideal.ofBits .f32 0x3F000000#32 * b) ((hx r l).trans (rb0 m c t _ l)) ?_
  refine (acc_piece m c t q K A hK h v hh hv (ix2 ⟨q.val * 256 + r, by omega⟩ l) (ix2 r l) rfl rfl).trans (hA _ _)

/-- The first chunk's residual sums. -/
theorem yr_0 (c : Dev nD) (t : Fin cfg0.N) (ht : t.val % 4 = 4 - 1) (K : FVec Ideal S1024x1024 .bf16) (A : FVec Ideal S1024x1024 .f32)
    (hK : ∀ r l, (K (ix2 r l) : EReal) = hrow m c (row t r) l)
    (hA : ∀ (r l : Fin 1024), (A (ix2 r l) : EReal) + term m c t (ix2 r l) = ∑ k : Fin 2816, part m c (row t r) k l) :
    yr (View.ld (Val := Elt Ideal) (e' := .f32) (S := S1024x1024) (iblk m c 0 t) (Rect.unit ![0, 0] ![256, 1024] inb_S1024x1024_S256x1024_0_0))
      (k0_pay48 (F := Ideal) (k0_pay47 (View.ld (Val := Elt Ideal) (e' := .bf16) (S := S1024x1024) K (Rect.unit ![0, 0] ![256, 1024] inb_S1024x1024_S256x1024_0_0)) (iblk m c 2 t) (iblk m c 3 t)) (View.ld (Val := Elt Ideal) (e' := .f32) (S := S1024x1024) A (Rect.unit ![0, 0] ![256, 1024] inb_S1024x1024_S256x1024_0_0)) (iblk m c 4 t))
      = fun r => yv m c (crow t 0 r) :=
  yr_piece m c t ht 0 K A hK hA _ _ _ (fun r l => by pointwise) (fun r l => by pointwise) (fun r l => by pointwise)

/-- The first chunk's targets. -/
theorem tv_0 (c : Dev nD) (t : Fin cfg0.N) :
    rw2 (View.ld (Val := Elt Ideal) (e' := .f32) (S := S1024x1024) (iblk m c 6 t) (Rect.unit ![0, 0] ![256, 1024] inb_S1024x1024_S256x1024_0_0)) = fun r => tv m c (crow t 0 r) :=
  tv_blk m c t 0 _ (fun r l => by pointwise)

/-- The second chunk's residual sums. -/
theorem yr_1 (c : Dev nD) (t : Fin cfg0.N) (ht : t.val % 4 = 4 - 1) (K : FVec Ideal S1024x1024 .bf16) (A : FVec Ideal S1024x1024 .f32)
    (hK : ∀ r l, (K (ix2 r l) : EReal) = hrow m c (row t r) l)
    (hA : ∀ (r l : Fin 1024), (A (ix2 r l) : EReal) + term m c t (ix2 r l) = ∑ k : Fin 2816, part m c (row t r) k l) :
    yr (View.ld (Val := Elt Ideal) (e' := .f32) (S := S1024x1024) (iblk m c 0 t) (Rect.unit ![256, 0] ![256, 1024] inb_S1024x1024_S256x1024_256_0))
      (k0_pay48 (F := Ideal) (k0_pay47 (View.ld (Val := Elt Ideal) (e' := .bf16) (S := S1024x1024) K (Rect.unit ![256, 0] ![256, 1024] inb_S1024x1024_S256x1024_256_0)) (iblk m c 2 t) (iblk m c 3 t)) (View.ld (Val := Elt Ideal) (e' := .f32) (S := S1024x1024) A (Rect.unit ![256, 0] ![256, 1024] inb_S1024x1024_S256x1024_256_0)) (iblk m c 4 t))
      = fun r => yv m c (crow t 1 r) :=
  yr_piece m c t ht 1 K A hK hA _ _ _ (fun r l => by pointwise) (fun r l => by pointwise) (fun r l => by pointwise)

/-- The second chunk's targets. -/
theorem tv_1 (c : Dev nD) (t : Fin cfg0.N) :
    rw2 (View.ld (Val := Elt Ideal) (e' := .f32) (S := S1024x1024) (iblk m c 6 t) (Rect.unit ![256, 0] ![256, 1024] inb_S1024x1024_S256x1024_256_0)) = fun r => tv m c (crow t 1 r) :=
  tv_blk m c t 1 _ (fun r l => by pointwise)

/-- The third chunk's residual sums. -/
theorem yr_2 (c : Dev nD) (t : Fin cfg0.N) (ht : t.val % 4 = 4 - 1) (K : FVec Ideal S1024x1024 .bf16) (A : FVec Ideal S1024x1024 .f32)
    (hK : ∀ r l, (K (ix2 r l) : EReal) = hrow m c (row t r) l)
    (hA : ∀ (r l : Fin 1024), (A (ix2 r l) : EReal) + term m c t (ix2 r l) = ∑ k : Fin 2816, part m c (row t r) k l) :
    yr (View.ld (Val := Elt Ideal) (e' := .f32) (S := S1024x1024) (iblk m c 0 t) (Rect.unit ![512, 0] ![256, 1024] inb_S1024x1024_S256x1024_512_0))
      (k0_pay48 (F := Ideal) (k0_pay47 (View.ld (Val := Elt Ideal) (e' := .bf16) (S := S1024x1024) K (Rect.unit ![512, 0] ![256, 1024] inb_S1024x1024_S256x1024_512_0)) (iblk m c 2 t) (iblk m c 3 t)) (View.ld (Val := Elt Ideal) (e' := .f32) (S := S1024x1024) A (Rect.unit ![512, 0] ![256, 1024] inb_S1024x1024_S256x1024_512_0)) (iblk m c 4 t))
      = fun r => yv m c (crow t 2 r) :=
  yr_piece m c t ht 2 K A hK hA _ _ _ (fun r l => by pointwise) (fun r l => by pointwise) (fun r l => by pointwise)

/-- The third chunk's targets. -/
theorem tv_2 (c : Dev nD) (t : Fin cfg0.N) :
    rw2 (View.ld (Val := Elt Ideal) (e' := .f32) (S := S1024x1024) (iblk m c 6 t) (Rect.unit ![512, 0] ![256, 1024] inb_S1024x1024_S256x1024_512_0)) = fun r => tv m c (crow t 2 r) :=
  tv_blk m c t 2 _ (fun r l => by pointwise)

/-- The last chunk's residual sums. -/
theorem yr_3 (c : Dev nD) (t : Fin cfg0.N) (ht : t.val % 4 = 4 - 1) (K : FVec Ideal S1024x1024 .bf16) (A : FVec Ideal S1024x1024 .f32)
    (hK : ∀ r l, (K (ix2 r l) : EReal) = hrow m c (row t r) l)
    (hA : ∀ (r l : Fin 1024), (A (ix2 r l) : EReal) + term m c t (ix2 r l) = ∑ k : Fin 2816, part m c (row t r) k l) :
    yr (View.ld (Val := Elt Ideal) (e' := .f32) (S := S1024x1024) (iblk m c 0 t) (Rect.unit ![768, 0] ![256, 1024] inb_S1024x1024_S256x1024_768_0))
      (k0_pay48 (F := Ideal) (k0_pay47 (View.ld (Val := Elt Ideal) (e' := .bf16) (S := S1024x1024) K (Rect.unit ![768, 0] ![256, 1024] inb_S1024x1024_S256x1024_768_0)) (iblk m c 2 t) (iblk m c 3 t)) (View.ld (Val := Elt Ideal) (e' := .f32) (S := S1024x1024) A (Rect.unit ![768, 0] ![256, 1024] inb_S1024x1024_S256x1024_768_0)) (iblk m c 4 t))
      = fun r => yv m c (crow t 3 r) :=
  yr_piece m c t ht 3 K A hK hA _ _ _ (fun r l => by pointwise) (fun r l => by pointwise) (fun r l => by pointwise)

/-- The last chunk's targets. -/
theorem tv_3 (c : Dev nD) (t : Fin cfg0.N) :
    rw2 (View.ld (Val := Elt Ideal) (e' := .f32) (S := S1024x1024) (iblk m c 6 t) (Rect.unit ![768, 0] ![256, 1024] inb_S1024x1024_S256x1024_768_0)) = fun r => tv m c (crow t 3 r) :=
  tv_blk m c t 3 _ (fun r l => by pointwise)

/-- A chunk of the block of gradients. -/
theorem dy_piece (c : Dev nD) (t : Fin cfg0.N) (q : Fin 4) (D : FVec Ideal S256x1024 .f32)
    (hD : ∀ (r : Fin 256) (l : Fin 1024), (D (ix2 r l) : EReal) = tokGrad (yv m c (crow t q r)) (gfv m c) (tv m c (crow t q r)) l)
    (y : S1024x1024.Idx) (x : S256x1024.Idx) (h0 : (y 0).val = q.val * 256 + (x 0).val) (h1 : (y 1).val = (x 1).val) :
    (D x : EReal) = tokGrad (yv m c (row t (y 0))) (gfv m c) (tv m c (row t (y 0))) (y 1) := by
  idx_vars x
  idx_vars y
  have hq : q.val * 256 + x0.val < 1024 := by
    have h : x0.val < 256 := x0.isLt
    omega
  obtain rfl : y1 = x1 := Fin.ext h1
  obtain rfl : y0 = (⟨q.val * 256 + x0.val, hq⟩ : Fin 1024) := Fin.ext h0
  exact hD _ _

/-- The gradient at the tokens of a run's last point. -/
theorem dy_C (c : Dev nD) (t : Fin cfg0.N) (h0 : ¬ t.val % 4 = 0) (h1 : t.val % 4 = 3) (y : S1024x1024.Idx) :
    (outsAt0 m c t.val t.isLt).1 y = tokGrad (yv m c (row t (y 0))) (gfv m c) (tv m c (row t (y 0))) (y 1) := by
  have hA := acc_total m c t h1
  rw [outsAt0_C m c t h0 (by omega) h1]; frame_out
  simp only [read_unread_whole]
  have hK := hb_prev m c t h0
  generalize (outsAt0 m c (t.val - 1) (Nat.lt_of_le_of_lt (Nat.sub_le _ _) t.isLt)).2.2.2.2.2.1 = K at hK ⊢
  generalize (outsAt0 m c (t.val - 1) (Nat.lt_of_le_of_lt (Nat.sub_le _ _) t.isLt)).2.2.2.2.2.2 = A at hA ⊢
  simp (disch := decide) only [↓ View.readCov_skip, ↓ View.readCov_cons_toLoadRect, ↓ View.readCov_fill, e3, e4, e5]
  have y0 := yr_0 m c t h1 K A hK hA
  have y1 := yr_1 m c t h1 K A hK hA
  have y2 := yr_2 m c t h1 K A hK hA
  have y3 := yr_3 m c t h1 K A hK hA
  clear hK hA
  canon_tiles x h
  case piece0 => exact dy_piece m c t 3 _ (fun r l => (dy3 _ _ _ _ r l).trans (by rw [y3, tv_3, g3, gv_blk])) y x ‹_› ‹_›
  case piece1 => exact dy_piece m c t 2 _ (fun r l => (dy2 _ _ _ _ r l).trans (by rw [y2, tv_2, g3, gv_blk])) y x ‹_› ‹_›
  case piece2 => exact dy_piece m c t 1 _ (fun r l => (dy1 _ _ _ _ r l).trans (by rw [y1, tv_1, g3, gv_blk])) y x ‹_› ‹_›
  case piece3 => exact dy_piece m c t 0 _ (fun r l => (dy0 _ _ _ _ r l).trans (by rw [y0, tv_0, gv_blk])) y x (by omega) ‹_›

/-- A quarter of a tile's loss. -/
def qloss (c : Dev nD) (t : Fin cfg0.N) (q : Fin 4) : EReal :=
  Ideal.ofBits .f32 0x3F000000#32 * ∑ r : Fin 256, tokLoss (yv m c (crow t q r)) (gfv m c) (tv m c (crow t q r))

/-- The last point of a run adds its tile's loss. -/
theorem loss_C (c : Dev nD) (t : Fin cfg0.N) (h0 : ¬ t.val % 4 = 0) (h1 : t.val % 4 = 3) (i : Fin 8) (j : Fin 128) :
    (outsAt0 m c t.val t.isLt).2.2.2.1 (ix2 i j)
      = (outsAt0 m c (t.val - 1) (Nat.lt_of_le_of_lt (Nat.sub_le _ _) t.isLt)).2.2.2.1 (ix2 i j) + ∑ q, qloss m c t q := by
  have hA := acc_total m c t h1
  rw [outsAt0_C m c t h0 (by omega) h1]; frame_out
  simp only [read_unread_whole]
  have hK := hb_prev m c t h0
  generalize (outsAt0 m c (t.val - 1) (Nat.lt_of_le_of_lt (Nat.sub_le _ _) t.isLt)).2.2.2.2.2.1 = K at hK ⊢
  generalize (outsAt0 m c (t.val - 1) (Nat.lt_of_le_of_lt (Nat.sub_le _ _) t.isLt)).2.2.2.2.2.2 = A at hA ⊢
  simp (disch := decide) only [↓ View.readCov_skip, ↓ View.readCov_cons_toLoadRect, ↓ View.readCov_fill, e3, e4, e5]
  refine (loss3 _ _ _ _ _ _ i j).trans ?_
  rw [loss2, loss1, loss0, yr_0 m c t h1 K A hK hA, yr_1 m c t h1 K A hK hA, yr_2 m c t h1 K A hK hA, yr_3 m c t h1 K A hK hA,
    tv_0, tv_1, tv_2, tv_3, g3, gv_blk, Fin.sum_univ_four]
  rfl

/-- A quarter of a tile's part of the last scale's gradient. -/
def qgain (c : Dev nD) (t : Fin cfg0.N) (l : Fin 1024) (q : Fin 4) : EReal :=
  ∑ r : Fin 256, tokGain (yv m c (crow t q r)) (gfv m c) (tv m c (crow t q r)) l

/-- The last point of a run adds its tile's part of the last scale's gradient. -/
theorem gain_C (c : Dev nD) (t : Fin cfg0.N) (h0 : ¬ t.val % 4 = 0) (h1 : t.val % 4 = 3) (u : Fin 1) (l : Fin 1024) :
    (outsAt0 m c t.val t.isLt).2.2.2.2.1 (ix2 u l)
      = (outsAt0 m c (t.val - 1) (Nat.lt_of_le_of_lt (Nat.sub_le _ _) t.isLt)).2.2.2.2.1 (ix2 u l) + ∑ q, qgain m c t l q := by
  have hA := acc_total m c t h1
  rw [outsAt0_C m c t h0 (by omega) h1]; frame_out
  simp only [read_unread_whole]
  have hK := hb_prev m c t h0
  generalize (outsAt0 m c (t.val - 1) (Nat.lt_of_le_of_lt (Nat.sub_le _ _) t.isLt)).2.2.2.2.2.1 = K at hK ⊢
  generalize (outsAt0 m c (t.val - 1) (Nat.lt_of_le_of_lt (Nat.sub_le _ _) t.isLt)).2.2.2.2.2.2 = A at hA ⊢
  simp (disch := decide) only [↓ View.readCov_skip, ↓ View.readCov_cons_toLoadRect, ↓ View.readCov_fill, e3, e4, e5]
  refine (dgsum _ _ u l).trans ?_
  rw [dg3, dg2, dg1, dg0, yr_0 m c t h1 K A hK hA, yr_1 m c t h1 K A hK hA, yr_2 m c t h1 K A hK hA, yr_3 m c t h1 K A hK hA,
    tv_0, tv_1, tv_2, tv_3, g3, gv_blk, Fin.sum_univ_four]
  rfl

/-- What a grid point adds to the loss: the last of a run its tile's. -/
def lterm (c : Dev nD) (t : Fin cfg0.N) (y : S8x128.Idx) : EReal := if t.val % 4 = 3 then ∑ q, qloss m c t q else 0

/-- What a grid point adds to the last scale's gradient. -/
def gterm (c : Dev nD) (t : Fin cfg0.N) (y : S1x1024.Idx) : EReal := if t.val % 4 = 3 then ∑ q, qgain m c t (y 1) q else 0

/-- The loss starts at zero. -/
theorem loss_A (c : Dev nD) (t : Fin cfg0.N) (h : t.val % 32 = 0) (y : S8x128.Idx) :
    (outsAt0 m c t.val t.isLt).2.2.2.1 y = 0 + lterm m c t y := by
  idx_vars y
  rw [outsAt0_A m c t (by omega) h (by omega)]; frame_out
  rw [lterm, if_neg (by omega), zero_add]
  exact zpayL _ _

/-- The last scale's gradient starts at zero. -/
theorem gain_A (c : Dev nD) (t : Fin cfg0.N) (h : t.val % 32 = 0) (y : S1x1024.Idx) :
    (outsAt0 m c t.val t.isLt).2.2.2.2.1 y = 0 + gterm m c t y := by
  idx_vars y
  rw [outsAt0_A m c t (by omega) h (by omega)]; frame_out
  rw [gterm, if_neg (by omega), zero_add]
  exact zpayG _ _

/-- A later point adds its part to the loss. -/
theorem loss_step (c : Dev nD) (t : Fin cfg0.N) (h : ¬ t.val % 32 = 0) (y : S8x128.Idx) :
    (outsAt0 m c t.val t.isLt).2.2.2.1 y
      = (outsAt0 m c (t.val - 1) (Nat.lt_of_le_of_lt (Nat.sub_le _ _) t.isLt)).2.2.2.1 y + lterm m c t y := by
  idx_vars y
  rw [lterm]
  by_cases h1 : t.val % 4 = 3
  · rw [if_pos h1]
    exact loss_C m c t (by omega) h1 _ _
  · rw [if_neg h1, add_zero]
    by_cases h0 : t.val % 4 = 0
    · rw [outsAt0_D m c t h0 h h1]; simp only [out0_D_10]
    · rw [outsAt0_B m c t h0 h h1]; simp only [out0_B_10]

/-- A later point adds its part to the last scale's gradient. -/
theorem gain_step (c : Dev nD) (t : Fin cfg0.N) (h : ¬ t.val % 32 = 0) (y : S1x1024.Idx) :
    (outsAt0 m c t.val t.isLt).2.2.2.2.1 y
      = (outsAt0 m c (t.val - 1) (Nat.lt_of_le_of_lt (Nat.sub_le _ _) t.isLt)).2.2.2.2.1 y + gterm m c t y := by
  idx_vars y
  rw [gterm]
  by_cases h1 : t.val % 4 = 3
  · rw [if_pos h1]
    exact gain_C m c t (by omega) h1 _ _
  · rw [if_neg h1, add_zero]
    by_cases h0 : t.val % 4 = 0
    · rw [outsAt0_D m c t h0 h h1]; simp only [out0_D_11]
    · rw [outsAt0_B m c t h0 h h1]; simp only [out0_B_11]

/-- A function of the tokens summed by tiles, by quarters and by rows is summed over the tokens. -/
theorem tiles_sum (c : Dev nD) (t : Fin cfg0.N) (ht : t.val % 32 = 32 - 1) (f : Fin 8192 → EReal) :
    ∑ s : Fin 32, (if (⟨32 * (t.val / 32) + s.val, Pipeline.run_point_lt_of_flush t ht s⟩ : Fin cfg0.N).val % 4 = 3 then
        ∑ q, ∑ r : Fin 256, f (crow ⟨32 * (t.val / 32) + s.val, Pipeline.run_point_lt_of_flush t ht s⟩ q r) else 0)
      = ∑ a, f a := by
  have hN : t.val < 32 := lt_of_lt_of_eq t.isLt (show cfg0.N = 32 from N_0)
  have key : ∑ T : Fin 8, ∑ k : Fin 4, (if k.val = 3 then ∑ p : Fin 1024, f ⟨T.val * 1024 + p.val, by omega⟩ else 0) = ∑ a, f a := by
    refine Eq.trans (b := ∑ T : Fin 8, ∑ p : Fin 1024, f ⟨T.val * 1024 + p.val, by omega⟩) (Finset.sum_congr rfl fun T _ => ?_)
      (Fin.sum_mul_add_congr fun T p hl => rfl)
    rw [Fin.sum_univ_four]
    simp
  rw [← key]
  symm
  refine Fin.sum_mul_add_congr fun T k hl => ?_
  have e : (32 * (t.val / 32) + (⟨T.val * 4 + k.val, hl⟩ : Fin 32).val) = T.val * 4 + k.val := by simp only; omega
  have hk : (32 * (t.val / 32) + (⟨T.val * 4 + k.val, hl⟩ : Fin 32).val) % 4 = k.val := by simp only; omega
  by_cases h3 : k.val = 3
  · rw [if_pos h3, if_pos (by rw [hk]; exact h3)]
    symm
    refine Fin.sum_mul_add_congr fun q r hl' => congrArg f (Fin.ext ?_)
    simp only
    omega
  · rw [if_neg h3, if_neg (by rw [hk]; exact h3)]

end Cert.Ffn2
-- ==== Proof.Ffn2Val.lean ====
module

public import proofs.«01_k».proof.Proof.Ffn2Head

set_option maxRecDepth 16384

@[expose] public section

noncomputable section

open Idealize.ShloMosaic Idealize.ShloMosaic.TcCoe Idealize.SL.Sem

namespace Cert.Ffn2

open Cert.Kernel6Ideal Cert.Kernel6Ideal.Gen Cert.FfnMath

variable (m : (ℓ : Loc nD τ sig) → Buf (Elt Ideal) ℓ)

/-- The gradient at the tokens after the call is the reference's. -/
theorem final7 (c : Dev nD) : (dats m 0 c).arrAt 7 (cfgs 0).N = Cert.Reference6Ideal.Read.val_main_v71 (F := Ideal) (X m c) (G m c) (WG m c) (WU m c) (WD m c) (GF m c) (TT m c) := by
  refine (dats m 0 c).arrAt_eq_of_covers 7 _ (by decide +kernel) fun t hf y => ?_
  have ht := (flush0_7 t).mp hf
  refine Eq.trans ?_ (show Cert.Reference6Ideal.Read.val_main_v71 (F := Ideal) (X m c) (G m c) (WG m c) (WU m c) (WD m c) (GF m c) (TT m c) (ix2 (row t (y 0)) (y 1)) = _ from ?_)
  · blk_simp
    rw [after0_7]
    idx_vars y
    rw [dy_C m c t (by omega) ht]
    refine Eq.trans ?_ (ref71 (X m c) (G m c) (WG m c) (WU m c) (WD m c) (GF m c) (TT m c) (row t y0) y1).symm
    rw [yv_ref]
    rfl
  · blk_ext [idx t]

/-- The loss after the call is the reference's. -/
theorem final10 (c : Dev nD) : (dats m 0 c).arrAt 10 (cfgs 0).N = Cert.Reference6Ideal.Read.val_main_v78 (F := Ideal) (X m c) (G m c) (WG m c) (WU m c) (WD m c) (GF m c) (TT m c) := by
  refine (dats m 0 c).arrAt_eq_of_covers 10 _ (by decide +kernel) fun t hf y => ?_
  have ht := (flush0_10 t).mp hf
  refine Eq.trans ?_ (show Cert.Reference6Ideal.Read.val_main_v78 (F := Ideal) (X m c) (G m c) (WG m c) (WU m c) (WD m c) (GF m c) (TT m c) (ix2 (y 0) (y 1)) = _ from ?_)
  · blk_simp
    rw [after0_10]
    idx_vars y
    rw [Pipeline.eq_sum_fin_of_reset_step_apply_of_flush (fun n h => (outsAt0 m c n h).2.2.2.1) 32 (fun _ => 0)
      (lterm m c) (fun t h y => loss_A m c t h y) (fun t h y => loss_step m c t h y) t ht _, zero_add]
    refine Eq.trans ?_ (ref78 (X m c) (G m c) (WG m c) (WU m c) (WD m c) (GF m c) (TT m c) y0 y1).symm
    have hh : Ideal.ofBits .f32 0x3F000000#32 = ((1 / 2 : ℝ) : EReal) := by
      simp [Ideal.ofBits, Ideal.ieee]; rw [← EReal.coe_mul]; norm_num
    simp only [lterm, qloss, hh, Cert.RmsLaw.real_mul_sum _ _ (show (0 : ℝ) ≤ 1 / 2 by norm_num), yv_ref]
    exact tiles_sum c t ht (fun a => ((1 / 2 : ℝ) : EReal) * tokLoss (yv m c a) (gfv m c) (tv m c a))
  · blk_ext [idx t]

/-- The last scale's gradient after the call is the reference's. -/
theorem final11 (c : Dev nD) : (dats m 0 c).arrAt 11 (cfgs 0).N = Cert.Reference6Ideal.Read.val_main_v79 (F := Ideal) (X m c) (G m c) (WG m c) (WU m c) (WD m c) (GF m c) (TT m c) := by
  refine (dats m 0 c).arrAt_eq_of_covers 11 _ (by decide +kernel) fun t hf y => ?_
  have ht := (flush0_11 t).mp hf
  refine Eq.trans ?_ (show Cert.Reference6Ideal.Read.val_main_v79 (F := Ideal) (X m c) (G m c) (WG m c) (WU m c) (WD m c) (GF m c) (TT m c) (ix2 (y 0) (y 1)) = _ from ?_)
  · blk_simp
    rw [after0_11]
    idx_vars y
    rw [Pipeline.eq_sum_fin_of_reset_step_apply_of_flush (fun n h => (outsAt0 m c n h).2.2.2.2.1) 32 (fun _ => 0)
      (gterm m c) (fun t h y => gain_A m c t h y) (fun t h y => gain_step m c t h y) t ht _, zero_add]
    refine Eq.trans ?_ (ref79 (X m c) (G m c) (WG m c) (WU m c) (WD m c) (GF m c) (TT m c) y0 y1).symm
    simp only [gterm, qgain, yv_ref]
    exact tiles_sum c t ht (fun a => tokGain (yv m c a) (gfv m c) (tv m c a) y1)
  · blk_ext [idx t]

end Cert.Ffn2
-- ==== Proof.Ffn2Claim.lean ====
module

public import proofs.«01_k».proof.Defs
public import proofs.«01_k».proof.Proof.Ffn2Val
public import proofs.«01_k».proof.Proof.Gen.Kernel6.Frame
public import proofs.«01_k».proof.Proof.Gen.Reference6Ideal.Run
public import Idealize.ShloMosaic.Lib.Claim

set_option maxRecDepth 16384

@[expose] public section

noncomputable section

open Idealize.ShloMosaic Idealize.SL.Sem

namespace Cert.Ffn2

/-- The printed call runs, keeps its arguments and ends quiescent. -/
theorem frame_bits : Cert.quiescent_Kernel6 := fun m ρ _ => Cert.Kernel6.Gen.frame m ρ

/-- The idealized call runs, keeps its arguments and ends quiescent. -/
theorem frame_ideal : Cert.quiescent_Kernel6Ideal := fun m ρ _ => Cert.Kernel6Ideal.Gen.frame m ρ

/-- The reference runs, keeps its arguments and ends quiescent: it has host operations only and declares no semaphore. -/
theorem frame_ref : Cert.quiescent_Reference6Ideal := by
  intro m g _
  exact (θ_run Cert.Reference6Ideal.defs _ _).mono (fun r h => ⟨fun c => (h c).2.2.2.2.2, sem_eq_zero_of_no_sems (by decide) r.2⟩)
    (Cert.Reference6Ideal.Value.run m g)

set_option maxHeartbeats 1600000 in
/-- The call computes the reference's loss, its gradient at the tokens and at the last scale, and its two projections in. -/
theorem value : Cert.algebraic_Kernel6Ideal_Reference6Ideal := by
  pair_intro
  · run_from Cert.Kernel6Ideal.Gen.run_main m g
  · run_from Cert.Reference6Ideal.Value.run m' g'
    · obtain ⟨h0, h1, h2, h3, h4, h5, h6⟩ := hagree c
      rw [Cert.Reference6Ideal.Read.val_main_v71_eq, h0, h1, h2, h3, h4, h5, h6]
      exact (final7 m c).symm
    · exact (Cert.Reference6Ideal.Read.val_main_v74_eq _ _ _).trans (final8 m c).symm
    · exact (Cert.Reference6Ideal.Read.val_main_v77_eq _ _ _).trans (final9 m c).symm
    · obtain ⟨h0, h1, h2, h3, h4, h5, h6⟩ := hagree c
      rw [Cert.Reference6Ideal.Read.val_main_v78_eq, h0, h1, h2, h3, h4, h5, h6]
      exact (final10 m c).symm
    · obtain ⟨h0, h1, h2, h3, h4, h5, h6⟩ := hagree c
      rw [Cert.Reference6Ideal.Read.val_main_v79_eq, h0, h1, h2, h3, h4, h5, h6]
      exact (final11 m c).symm

end Cert.Ffn2
-- ==== Proof.MixInFwd.lean ====
module

public import proofs.«01_k».proof.Proof.Gen.Kernel7Ideal.Value
public import proofs.«01_k».proof.Proof.Gen.Reference7Ideal.Read
public import Idealize.ShloMosaic.Lib.Pipeline.ValueKit
public import Idealize.ShloMosaic.Lib.Pipeline.ReadBack
public import Idealize.ShloMosaic.Lib.Pointwise

set_option maxRecDepth 16384

@[expose] public section

noncomputable section

open Idealize.ShloMosaic Idealize.ShloMosaic.TcCoe Idealize.SL.Sem

namespace Cert.MixInFwd

open Cert.Kernel7Ideal Cert.Kernel7Ideal.Gen

variable (m : (ℓ : Loc nD τ sig) → Buf (Elt Ideal) ℓ)

/-- The tokens. -/
abbrev X (c : Dev nD) : FVec Ideal S8192x1024 .f32 := m ((c : Thread nD τ).loc main_arg0)
/-- The gain. -/
abbrev G (c : Dev nD) : FVec Ideal S1024 .f32 := m ((c : Thread nD τ).loc main_arg1)
/-- The weight. -/
abbrev W (c : Dev nD) : FVec Ideal S1024x2048 .f32 := m ((c : Thread nD τ).loc main_arg2)

/-- The block every window shows at a grid point. -/
theorem idx : ∀ t : Fin cfg0.N, win0_0.index t = ![t.val, 0]
    ∧ win0_1.index t = ![0, 0]
    ∧ win0_2.index t = ![0, 0, 0]
    ∧ win0_3.index t = ![t.val, 0] :=
  (by decide +kernel : ∀ t : Fin grid0.N, _)

/-- The token row `r` of block `t` in the whole array. -/
@[reducible] def row (t : Fin cfg0.N) (r : Fin 1024) : Fin 8192 := ⟨t.val * 1024 + r.val, by have := lt_of_lt_of_eq t.isLt N_0; omega⟩

/-- The tokens' block. -/
theorem rb0 (c : Dev nD) (t : Fin cfg0.N) (r l : Fin 1024) : iblk m c 0 t (ix2 r l) = X m c (ix2 (row t r) l) := by
  blk_simp [iblk, idx t]
  entry_read
  blk_ext [idx t]

/-- The gain's block. -/
theorem rb1 (c : Dev nD) (t : Fin cfg0.N) (u : Fin 1) (l : Fin 1024) : iblk m c 1 t (ix2 u l) = G m c (ix1 l) := by
  blk_simp [iblk, idx t]
  entry_read
  pointwise
  blk_ext [idx t]

/-- The weight's block holds its column slices one after the other. -/
theorem rb2 (c : Dev nD) (t : Fin cfg0.N) (q : Fin 4) (l : Fin 1024) (j : Fin 512) :
    iblk m c 2 t (ix3 q l j) = W m c (ix2 l ⟨q.val * 512 + j, by omega⟩) := by
  blk_simp [iblk, idx t]
  entry_read
  pointwise
  blk_ext [idx t]

/-- The inverse root mean square of a row. -/
def rinv {n : Nat} (x : FVec Ideal ⟨2, ![n, 1024]⟩ .f32) (a : Fin n) : EReal :=
  Ideal.rsqrt (Ideal.div (∑ i : Fin 1024, x (ix2 a i) * x (ix2 a i)) (Ideal.ofBits .f32 0x44800000#32) + Ideal.ofBits .f32 0x358637BD#32)

/-- The normalised and scaled token. -/
theorem hpay (x : FVec Ideal S1024x1024 .f32) (g : FVec Ideal S1x1024 .f32) (r l : Fin 1024) :
    (k0_pay2 (F := Ideal) x g (ix2 r l) : EReal) = x (ix2 r l) * rinv x r * g (ix2 0 l) := by
  pointwise [k0_pay2]
  rfl

/-- One column slice of the projection. -/
theorem ppay (h : FVec Ideal S1024x1024 .bf16) (w : FVec Ideal S1x1024x512 .bf16) (r : Fin 1024) (j : Fin 512) :
    (k0_pay1 (F := Ideal) h w (ix2 r j) : EReal) = ∑ l, (h (ix2 r l) * w (ix3 0 l j) : EReal) := by
  pointwise [k0_pay1]

/-- The reference's projection of one token. -/
theorem ref (x : FVec Ideal Cert.Reference7Ideal.S8192x1024 .f32) (g : FVec Ideal Cert.Reference7Ideal.S1024 .f32)
    (w : FVec Ideal Cert.Reference7Ideal.S1024x2048 .f32) (a : Fin 8192) (k : Fin 2048) :
    Cert.Reference7Ideal.Read.val_main_v13 (F := Ideal) x g w (ix2 a k) = ∑ l, x (ix2 a l) * rinv x a * g (ix1 l) * w (ix2 l k) := by
  pointwise [Cert.Reference7Ideal.Read.val_main_v13, Cert.Reference7Ideal.Read.val_main_v12, Cert.Reference7Ideal.Read.val_main_v11, Cert.Reference7Ideal.Read.val_main_v10, Cert.Reference7Ideal.Read.val_main_v9, Cert.Reference7Ideal.Read.val_main_v8, Cert.Reference7Ideal.Read.val_main_v7, Cert.Reference7Ideal.Read.val_main_v6, Cert.Reference7Ideal.Read.val_main_v5, Cert.Reference7Ideal.Read.val_main_v4, Cert.Reference7Ideal.Read.val_main_v3, Cert.Reference7Ideal.Read.val_main_v2, Cert.Reference7Ideal.Read.val_main_v1, Cert.Reference7Ideal.Read.val_main_v0, Cert.Reference7Ideal.Read.val_main_cst, Cert.Reference7Ideal.Read.val_main_cst_0, Cert.Reference7Ideal.Read.val_main_cst_1]
  rfl

/-- One column slice of the kernel's projection over the blocks of a grid point, the weight's slice read at `q`. -/
theorem slice (c : Dev nD) (t : Fin cfg0.N) (q : Fin 4) (w : FVec Ideal S1x1024x512 .bf16)
    (hw : ∀ (l : Fin 1024) (j : Fin 512), (w (ix3 0 l j) : EReal) = iblk m c 2 t (ix3 q l j)) (y : S1024x2048.Idx) (x : S1024x512.Idx)
    (h0 : (y 0).val = (x 0).val) (h1 : (y 1).val = q.val * 512 + (x 1).val) :
    k0_pay1 (F := Ideal) (k0_pay2 (iblk m c 0 t) (iblk m c 1 t)) w x
      = Cert.Reference7Ideal.Read.val_main_v13 (F := Ideal) (X m c) (G m c) (W m c) (ix2 (row t (y 0)) (y 1)) := by
  idx_vars x
  idx_vars y
  obtain rfl : y0 = x0 := Fin.ext h0
  have hq : q.val * 512 + x1.val < 2048 := by
    have h : x1.val < 512 := x1.isLt
    omega
  obtain rfl : y1 = (⟨q.val * 512 + x1.val, hq⟩ : Fin 2048) := Fin.ext h1
  refine (ppay _ _ _ _).trans (Eq.trans (Finset.sum_congr rfl fun l _ => ?_) (ref (X m c) (G m c) (W m c) (row t y0) _).symm)
  rw [hpay, hw, rb2, rb0, rb1]
  simp only [rinv, rb0]

/-- The projection after the call is the reference's. -/
theorem final3 (c : Dev nD) : (dats m 0 c).arrAt 3 (cfgs 0).N
    = Cert.Reference7Ideal.Read.val_main_v13 (F := Ideal) (X m c) (G m c) (W m c) := by
  refine (dats m 0 c).arrAt_eq_of_covers 3 _ (by decide +kernel) fun t hf y => ?_
  refine Eq.trans ?_ (show Cert.Reference7Ideal.Read.val_main_v13 (F := Ideal) (X m c) (G m c) (W m c) (ix2 (row t (y 0)) (y 1)) = _ from ?_)
  · blk_simp
    rw [after0_3]; frame_out
    canon_tiles x h
    case piece0 => exact slice m c t 3 _ (fun l j => by generalize iblk m c 2 t = B; pointwise) y x h0 h1
    case piece1 => exact slice m c t 2 _ (fun l j => by generalize iblk m c 2 t = B; pointwise) y x h0 h1
    case piece2 => exact slice m c t 1 _ (fun l j => by generalize iblk m c 2 t = B; pointwise) y x h0 h1
    case piece3 => exact slice m c t 0 _ (fun l j => by generalize iblk m c 2 t = B; pointwise) y x h0 (by omega)
  · blk_ext [idx t]

end Cert.MixInFwd
-- ==== Proof.MixInFwdClaim.lean ====
module

public import proofs.«01_k».proof.Defs
public import proofs.«01_k».proof.Proof.MixInFwd
public import proofs.«01_k».proof.Proof.Gen.Kernel7.Frame
public import proofs.«01_k».proof.Proof.Gen.Reference7Ideal.Run
public import Idealize.ShloMosaic.Lib.Claim

set_option maxRecDepth 16784

@[expose] public section

noncomputable section

open Idealize.ShloMosaic Idealize.SL.Sem

namespace Cert.MixInFwd

/-- The printed call runs, keeps its arguments and ends quiescent. -/
theorem frame_bits : Cert.quiescent_Kernel7 := fun m ρ _ => Cert.Kernel7.Gen.frame m ρ

/-- The idealized call runs, keeps its arguments and ends quiescent. -/
theorem frame_ideal : Cert.quiescent_Kernel7Ideal := fun m ρ _ => Cert.Kernel7Ideal.Gen.frame m ρ

/-- The reference runs, keeps its arguments and ends quiescent: it has host operations only and declares no semaphore. -/
theorem frame_ref : Cert.quiescent_Reference7Ideal := by
  intro m g _
  exact (θ_run Cert.Reference7Ideal.defs _ _).mono (fun r h => ⟨fun c => (h c).2, sem_eq_zero_of_no_sems (by decide) r.2⟩)
    (Cert.Reference7Ideal.Value.run m g)

set_option maxHeartbeats 1600000 in
/-- The call computes the reference's projection. -/
theorem value : Cert.algebraic_Kernel7Ideal_Reference7Ideal := by
  pair_intro
  · run_from Cert.Kernel7Ideal.Gen.run_main m g
  · run_from Cert.Reference7Ideal.Value.run m' g'
    · exact (Cert.Reference7Ideal.Read.val_main_v13_eq _ _ _).trans (final3 m c).symm

end Cert.MixInFwd
-- ==== Proof.MixOutFwd.lean ====
module

public import proofs.«01_k».proof.Proof.Gen.Kernel8Ideal.Value
public import proofs.«01_k».proof.Proof.Gen.Reference8Ideal.Read
public import Idealize.ShloMosaic.Lib.Pipeline.ValueKit
public import Idealize.ShloMosaic.Lib.Pipeline.ReadBack
public import Idealize.ShloMosaic.Lib.Pointwise

set_option maxRecDepth 16384

@[expose] public section

noncomputable section

open Idealize.ShloMosaic Idealize.ShloMosaic.TcCoe Idealize.SL.Sem

namespace Cert.MixOutFwd

open Cert.Kernel8Ideal Cert.Kernel8Ideal.Gen

variable (m : (ℓ : Loc nD τ sig) → Buf (Elt Ideal) ℓ)

/-- The residual tokens. -/
abbrev X (c : Dev nD) : FVec Ideal S8192x1024 .f32 := m ((c : Thread nD τ).loc main_arg0)
/-- The convolution's head group. -/
abbrev U (c : Dev nD) : FVec Ideal S8192x512 .f32 := m ((c : Thread nD τ).loc main_arg1)
/-- The recurrence's head group. -/
abbrev Y (c : Dev nD) : FVec Ideal S8192x512 .f32 := m ((c : Thread nD τ).loc main_arg2)
/-- The weight. -/
abbrev W (c : Dev nD) : FVec Ideal S1024x1024 .f32 := m ((c : Thread nD τ).loc main_arg3)

/-- The block every window shows at a grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![t.val, 0] :=
  (by decide +kernel : ∀ t : Fin grid0.N, _)

/-- The token row `r` of block `t` in the whole array. -/
@[reducible] def row (t : Fin cfg0.N) (r : Fin 1024) : Fin 8192 := ⟨t.val * 1024 + r.val, by have := lt_of_lt_of_eq t.isLt N_0; omega⟩

/-- The residual's block. -/
theorem rb0 (c : Dev nD) (t : Fin cfg0.N) (r l : Fin 1024) : iblk m c 0 t (ix2 r l) = X m c (ix2 (row t r) l) := by
  blk_simp [iblk, idx t]
  entry_read
  blk_ext [idx t]

/-- The convolution's block. -/
theorem rb1 (c : Dev nD) (t : Fin cfg0.N) (r : Fin 1024) (j : Fin 512) : iblk m c 1 t (ix2 r j) = U m c (ix2 (row t r) j) := by
  blk_simp [iblk, idx t]
  entry_read
  pointwise
  blk_ext [idx t]

/-- The recurrence's block. -/
theorem rb2 (c : Dev nD) (t : Fin cfg0.N) (r : Fin 1024) (j : Fin 512) : iblk m c 2 t (ix2 r j) = Y m c (ix2 (row t r) j) := by
  blk_simp [iblk, idx t]
  entry_read
  pointwise
  blk_ext [idx t]

/-- The weight's block is the weight. -/
theorem rb3 (c : Dev nD) (t : Fin cfg0.N) (k l : Fin 1024) : iblk m c 3 t (ix2 k l) = W m c (ix2 k l) := by
  blk_simp [iblk, idx t]
  entry_read
  pointwise
  blk_ext [idx t]

/-- The weight's upper rows. -/
theorem rw0 (c : Dev nD) (t : Fin cfg0.N) (k : Fin 512) (l : Fin 1024) :
    View.ld (iblk m c 3 t) (Rect.unit ![0, 0] ![512, 1024] inb_S1024x1024_S512x1024_0_0) (ix2 k l)
      = W m c (ix2 ⟨0 * 512 + k, by omega⟩ l) := by
  refine Eq.trans ?_ (rb3 m c t ⟨0 * 512 + k, by omega⟩ l)
  generalize iblk m c 3 t = B
  pointwise

/-- The weight's lower rows. -/
theorem rw1 (c : Dev nD) (t : Fin cfg0.N) (k : Fin 512) (l : Fin 1024) :
    View.ld (iblk m c 3 t) (Rect.unit ![512, 0] ![512, 1024] inb_S1024x1024_S512x1024_512_0) (ix2 k l)
      = W m c (ix2 ⟨1 * 512 + k, by omega⟩ l) := by
  refine Eq.trans ?_ (rb3 m c t ⟨1 * 512 + k, by omega⟩ l)
  generalize iblk m c 3 t = B
  pointwise

/-- One token row of the kernel's block: the residual and two products over 512 columns each. -/
theorem pay (x : FVec Ideal S1024x1024 .f32) (u y : FVec Ideal S1024x512 .bf16) (w0 w1 : FVec Ideal S512x1024 .bf16) (r l : Fin 1024) :
    (k0_pay1 (F := Ideal) x u w0 y w1 (ix2 r l) : EReal)
      = x (ix2 r l) + (∑ j, (u (ix2 r j) * w0 (ix2 j l) : EReal)) + ∑ j, (y (ix2 r j) * w1 (ix2 j l) : EReal) := by
  pointwise [k0_pay1]

/-- The head groups side by side. -/
def cat (u y : FVec Ideal S8192x512 .f32) (a : Fin 8192) (k : Fin 1024) : EReal :=
  if h : k.val < 512 then u (ix2 a ⟨k.val, h⟩) else y (ix2 a ⟨k.val - 512, by omega⟩)

/-- The reference's row: the residual and one product over the concatenated head groups. -/
theorem ref (x : FVec Ideal Cert.Reference8Ideal.S8192x1024 .f32) (u y : FVec Ideal Cert.Reference8Ideal.S8192x512 .f32)
    (w : FVec Ideal Cert.Reference8Ideal.S1024x1024 .f32) (a : Fin 8192) (l : Fin 1024) :
    Cert.Reference8Ideal.Read.val_main_v2 (F := Ideal) x u y w (ix2 a l) = x (ix2 a l) + ∑ k, cat u y a k * w (ix2 k l) := by
  pointwise [Cert.Reference8Ideal.Read.val_main_v2, Cert.Reference8Ideal.Read.val_main_v1, Cert.Reference8Ideal.Read.val_main_v0, cat]

/-- The product over the concatenated head groups is the sum of the two groups' products. -/
theorem cat_sum (u y : FVec Ideal S8192x512 .f32) (w : Fin 1024 → EReal) (a : Fin 8192) :
    ∑ k, cat u y a k * w k = (∑ j : Fin 512, u (ix2 a j) * w ⟨0 * 512 + j, by omega⟩) + ∑ j : Fin 512, y (ix2 a j) * w ⟨1 * 512 + j, by omega⟩ := by
  rw [← Fin.sum_mul_add_fin 2 512 (fun k : Fin 1024 => cat u y a k * w k), Fin.sum_univ_two]
  refine congrArg₂ (· + ·) (Finset.sum_congr rfl fun j _ => ?_) (Finset.sum_congr rfl fun j _ => ?_)
  · refine congrArg (· * _) ((dif_pos (by show 0 * 512 + j.val < 512; omega)).trans ?_)
    exact congrArg (fun q => u (ix2 a q)) (Fin.ext (by show 0 * 512 + j.val = j.val; omega))
  · refine congrArg (· * _) ((dif_neg (by show ¬ 1 * 512 + j.val < 512; omega)).trans ?_)
    exact congrArg (fun q => y (ix2 a q)) (Fin.ext (by show 1 * 512 + j.val - 512 = j.val; omega))

/-- The result after the call is the reference's. -/
theorem final4 (c : Dev nD) : (dats m 0 c).arrAt 4 (cfgs 0).N
    = Cert.Reference8Ideal.Read.val_main_v2 (F := Ideal) (X m c) (U m c) (Y m c) (W m c) := by
  refine (dats m 0 c).arrAt_eq_of_covers 4 _ (by decide +kernel) fun t hf y => ?_
  blk_simp
  rw [after0_4]; frame_out
  idx_vars y
  rw [pay]
  simp only [rb0, rb1, rb2]
  simp only [show ∀ k l, View.ld (iblk m c 3 t) r0_2 (ix2 k l) = _ from rw0 m c t,
    show ∀ k l, View.ld (iblk m c 3 t) r0_3 (ix2 k l) = _ from rw1 m c t]
  refine Eq.trans ?_ (Eq.trans (ref (X m c) (U m c) (Y m c) (W m c) (row t y0) y1).symm ?_)
  · rw [cat_sum _ _ (fun k => W m c (ix2 k y1)), add_assoc]
  · blk_ext [idx t]

end Cert.MixOutFwd
-- ==== Proof.MixOutFwdClaim.lean ====
module

public import proofs.«01_k».proof.Defs
public import proofs.«01_k».proof.Proof.MixOutFwd
public import proofs.«01_k».proof.Proof.Gen.Kernel8.Frame
public import proofs.«01_k».proof.Proof.Gen.Reference8Ideal.Run
public import Idealize.ShloMosaic.Lib.Claim

set_option maxRecDepth 16884

@[expose] public section

noncomputable section

open Idealize.ShloMosaic Idealize.SL.Sem

namespace Cert.MixOutFwd

/-- The printed call runs, keeps its arguments and ends quiescent. -/
theorem frame_bits : Cert.quiescent_Kernel8 := fun m ρ _ => Cert.Kernel8.Gen.frame m ρ

/-- The idealized call runs, keeps its arguments and ends quiescent. -/
theorem frame_ideal : Cert.quiescent_Kernel8Ideal := fun m ρ _ => Cert.Kernel8Ideal.Gen.frame m ρ

/-- The reference runs, keeps its arguments and ends quiescent: it has host operations only and declares no semaphore. -/
theorem frame_ref : Cert.quiescent_Reference8Ideal := by
  intro m g _
  exact (θ_run Cert.Reference8Ideal.defs _ _).mono (fun r h => ⟨fun c => (h c).2, sem_eq_zero_of_no_sems (by decide) r.2⟩)
    (Cert.Reference8Ideal.Value.run m g)

set_option maxHeartbeats 1600000 in
/-- The call computes the reference's sum. -/
theorem value : Cert.algebraic_Kernel8Ideal_Reference8Ideal := by
  pair_intro
  · run_from Cert.Kernel8Ideal.Gen.run_main m g
  · run_from Cert.Reference8Ideal.Value.run m' g'
    · obtain ⟨h0, h1, h2, h3⟩ := hagree c
      exact (Cert.Reference8Ideal.Read.val_main_v2_eq _ _ _ _).trans ((congrArg₂ (fun a b => Cert.Reference8Ideal.Read.val_main_v2 (F := Ideal) _ a b _) h1 h2).trans (final4 m c).symm)

end Cert.MixOutFwd
-- ==== Proof.AdamW.lean ====
module

public import proofs.«01_k».proof.Defs
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise
public import Idealize.ShloMosaic.Lib.Claim

set_option maxRecDepth 16384

@[expose] public section

noncomputable section

open Idealize.ShloMosaic Idealize.ShloMosaic.TcCoe Idealize.SL.Sem

namespace Cert.AdamW

open Cert.Kernel9Ideal Cert.Kernel9Ideal.Value

/-- The first moment: the call's is the reference's. -/
theorem first (g m : FVec Ideal S704x1024 .f32) : G5 (F := Ideal) g m = Cert.Reference9Ideal.Read.val_main_v4 (F := Ideal) g m := by
  rfl

/-- The second moment: the call's is the reference's. -/
theorem second (g v : FVec Ideal S704x1024 .f32) : G6 (F := Ideal) g v = Cert.Reference9Ideal.Read.val_main_v10 (F := Ideal) g v := by
  rfl

/-- The step: the call's is the reference's. -/
theorem step (g m v w : FVec Ideal S704x1024 .f32) :
    G4 (F := Ideal) g m v w = Cert.Reference9Ideal.Read.val_main_v23 (F := Ideal) w g m v := by
  rfl

/-- The printed call runs, keeps its arguments and ends quiescent. -/
theorem frame_bits : Cert.quiescent_Kernel9 := fun m ρ _ => Cert.Kernel9.Gen.frame m ρ

/-- The idealized call runs, keeps its arguments and ends quiescent. -/
theorem frame_ideal : Cert.quiescent_Kernel9Ideal := fun m ρ _ => Cert.Kernel9Ideal.Gen.frame m ρ

/-- The reference runs, keeps its arguments and ends quiescent: it has host operations only and declares no semaphore. -/
theorem frame_ref : Cert.quiescent_Reference9Ideal := by
  intro m g _
  exact (θ_run Cert.Reference9Ideal.defs _ _).mono (fun r h => ⟨fun c => (h c).2.2.2, sem_eq_zero_of_no_sems (by decide) r.2⟩)
    (Cert.Reference9Ideal.Value.run m g)

set_option maxHeartbeats 1600000 in
/-- The call computes reference.py's step and its two moments. -/
theorem value : Cert.algebraic_Kernel9Ideal_Reference9Ideal := by
  pair_intro
  · run_from Cert.Kernel9Ideal.Value.run m g
  · run_from Cert.Reference9Ideal.Value.run m' g'
    · exact (step _ _ _ _).symm
    · exact (first _ _).symm
    · exact (second _ _).symm

end Cert.AdamW
-- ==== Proof.SmallSum.lean ====
module

public import proofs.«01_k».proof.Defs
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read
public import Idealize.ShloMosaic.Lib.Pipeline.ValueKit
public import Idealize.ShloMosaic.Lib.Pipeline.ReadBack
public import Idealize.ShloMosaic.Lib.Pipeline.Covers
public import Idealize.ShloMosaic.Lib.Pointwise
public import Idealize.ShloMosaic.Lib.DynamicIndex
public import Idealize.ShloMosaic.Lib.WordCmp
public import Idealize.ShloMosaic.Lib.Claim

set_option maxRecDepth 16384

@[expose] public section

noncomputable section

open Idealize.ShloMosaic Idealize.ShloMosaic.TcCoe Idealize.SL.Sem

namespace Cert.SmallSum

open Cert.Kernel10Ideal Cert.Kernel10Ideal.Gen

variable (m : (ℓ : Loc nD τ sig) → Buf (Elt Ideal) ℓ)

/-- What each device packed. -/
abbrev X (c : Dev nD) : FVec Ideal S8x752x128 .f32 := m ((c : Thread nD τ).loc main_arg0)
/-- What was left in the device's own slot. -/
abbrev L (c : Dev nD) : FVec Ideal S8x752x128 .f32 := m ((c : Thread nD τ).loc main_arg1)
/-- The device's number. -/
abbrev D (c : Dev nD) : BitVec 32 := (m ((c : Thread nD τ).loc main_arg2) : S1.Idx → BitVec 32) (ix1 0)

/-- No index map reads the device's number, so that its contents ask nothing. -/
theorem ok : Ok m := trivial

/-- The device's number as the host reads it. -/
abbrev num (c : Dev nD) : IVec S_ 32 := shapeCast S_ (m ((c : Thread nD τ).loc main_arg2) : IVec S1 32) shapeCasts_S1_S_

/-- The host's number is the word. -/
theorem num_eq (c : Dev nD) (i : S_.Idx) : num m c i = D m c := by
  refine congrArg (m ((c : Thread nD τ).loc main_arg2) : S1.Idx → BitVec 32) (funext fun a => ?_)
  exact Subsingleton.elim (α := Fin (S1.size a)) (h := by match a with | ⟨0, _⟩ => exact inferInstanceAs (Subsingleton (Fin 1))) _ _

/-- The table the region is handed is the device's number. -/
theorem table (c : Dev nD) : (tbl m 0 : S1.Idx → BitVec 32) (ix1 0) = D m c := by
  obtain rfl : c = 0 := Subsingleton.elim _ _
  rfl

/-- The blocks at the grid's only point. -/
theorem maps : ∀ t : Fin grid0.N, cc0_transform_0 (grid0.coords t) = ![0, 0]
    ∧ cc0_transform_1 (grid0.coords t) = ![0, 0, 0]
    ∧ cc0_transform_2 (grid0.coords t) = ![0, 0] := by decide +kernel

/-- The block every window shows. -/
theorem idx (t : Fin (cfgM m (ok m)).N) : (pcfg0.win (adm m (ok m)) 0).index t = ![0, 0]
    ∧ (pcfg0.win (adm m (ok m)) 1).index t = ![0, 0, 0]
    ∧ (pcfg0.win (adm m (ok m)) 2).index t = ![0, 0] :=
  maps t

/-- Every window shows its whole array. -/
theorem zero0 (t : Fin (cfgM m (ok m)).N) (a : Fin 2) : (pcfg0.win (adm m (ok m)) 0).index t a = 0 :=
  (congrFun (idx m t).1 a).trans (by match a with | ⟨0, _⟩ => rfl | ⟨1, _⟩ => rfl)
theorem zero1 (t : Fin (cfgM m (ok m)).N) (a : Fin 3) : (pcfg0.win (adm m (ok m)) 1).index t a = 0 :=
  (congrFun (idx m t).2.1 a).trans (by match a with | ⟨0, _⟩ => rfl | ⟨1, _⟩ => rfl | ⟨2, _⟩ => rfl)
theorem zero2 (t : Fin (cfgM m (ok m)).N) (a : Fin 2) : (pcfg0.win (adm m (ok m)) 2).index t a = 0 :=
  (congrFun (idx m t).2.2 a).trans (by match a with | ⟨0, _⟩ => rfl | ⟨1, _⟩ => rfl)

/-- The device's own array as the region finds it. -/
abbrev A (c : Dev nD) : FVec Ideal S752x128 .f32 := V m c main_v1
/-- The slots as the region finds them. -/
abbrev B (c : Dev nD) : FVec Ideal S8x752x128 .f32 := V m c main_v6

/-- The device's own array. -/
theorem rb0 (c : Dev nD) (t : Fin (cfgM m (ok m)).N) (r : Fin 752) (l : Fin 128) : iblk m (ok m) c 0 t (ix2 r l) = A m c (ix2 r l) := by
  blk_simp [iblk]
  blk_ext
  · exact (congrArg (fun n => n * 752 + r.val) (zero0 m t 0)).trans (by simp)
  · exact (congrArg (fun n => n * 128 + l.val) (zero0 m t 1)).trans (by simp)

/-- The slots. -/
theorem rb1 (c : Dev nD) (t : Fin (cfgM m (ok m)).N) (d : Fin 8) (r : Fin 752) (l : Fin 128) : iblk m (ok m) c 1 t (ix3 d r l) = B m c (ix3 d r l) := by
  blk_simp [iblk]
  blk_ext
  · exact (congrArg (fun n => n * 8 + d.val) (zero1 m t 0)).trans (by simp)
  · exact (congrArg (fun n => n * 752 + r.val) (zero1 m t 1)).trans (by simp)
  · exact (congrArg (fun n => n * 128 + l.val) (zero1 m t 2)).trans (by simp)

/-- What the host hands to the call as the slots. -/
theorem v6 (c : Dev nD) : V m c main_v6
    = select (cmpi .eq (iotaInDim S8x752x128 32 0) (broadcastInDim S8x752x128 ![] bcast_S_S8x752x128 (num m c))) (L m c) (X m c) := by
  rfl

/-- A choice on an equality of words. -/
theorem sel {α : Type} (a b : BitVec 32) (x y : α) : Scalar.select (IntOp.cmpi .eq a b) x y = if a = b then x else y := by
  unfold Scalar.select IntOp.cmpi
  by_cases h : a = b
  · simp [h]
  · have e : (a == b) = false := by simpa using h
    simp [h, e]

/-- The slots hold what the devices packed, the device's own what was left there. -/
theorem slots (c : Dev nD) (d : Fin 8) (r : Fin 752) (l : Fin 128) :
    (B m c (ix3 d r l) : EReal) = if BitVec.ofNat 32 d.val = D m c then L m c (ix3 d r l) else X m c (ix3 d r l) := by
  rw [B, v6]
  pointwise [num_eq]
  exact sel _ _ _ _

/-- What the host hands to the call as the device's own array: the entry at the device's number, a negative one counted
from the end. -/
theorem v1 (c : Dev nD) : ∃ start : Fin 3 → Int,
    V m c main_v1 = shapeCast S752x128 (Host.dynamicSlice S1x752x128 (X m c) start sliceFits_S8x752x128_S1x752x128) shapeCasts_S1x752x128_S752x128
      ∧ start 0 = (select (cmpi .slt (num m c) (constantI S_ 32 0#32)) (addi (num m c) (constantI S_ 32 8#32)) (num m c) (Shape.Idx.first h_S_)).toInt
      ∧ start 1 = 0 ∧ start 2 = 0 := by
  exact ⟨_, rfl, rfl, rfl, rfl⟩

/-- Every device's entry lies inside. -/
theorem fits : ∀ d : Fin 8, S8x752x128.Slices ![d.val, 0, 0] S1x752x128 := by decide

/-- The device's own array is its entry of what the devices packed. -/
theorem own (c : Dev nD) (d : Fin 8) (h : D m c = BitVec.ofNat 32 d.val) (r : Fin 752) (l : Fin 128) :
    A m c (ix2 r l) = X m c (ix3 d r l) := by
  obtain ⟨start, e, h0, h1, h2⟩ := v1 m c
  rw [select_slt_zero_of_nonneg _ _ _ _ (by rw [num_eq, h, toInt_ofNat_of_lt (by omega)]; omega), num_eq, h, toInt_ofNat_of_lt (by omega)] at h0
  rw [A, e, Host.dynamicSlice_eq_extractStridedSlice _ _ _ ![d.val, 0, 0] _ (fits d) (fun a => by
    match a with
    | ⟨0, _⟩ => exact h0
    | ⟨1, _⟩ => exact h1
    | ⟨2, _⟩ => exact h2)]
  generalize X m c = x
  pointwise

/-- The device's number is the only word of its array. -/
theorem one : ∀ i : S1.Idx, i = ix1 0 := fun i => funext fun a => by
  match a with
  | ⟨0, h⟩ => exact Fin.ext (by have : (i ⟨0, h⟩).val < 1 := (i ⟨0, h⟩).isLt; show (i ⟨0, h⟩).val = 0; omega)

/-- The word the body reads eight times is the array's only one. -/
theorem word (c : Dev nD) (x : TbBuf0 (F := Ideal) c tbM0_0) (q : S1.Idx) :
    View.read (Elt Ideal) (View.whole main_arg2) x q = (x : S1.Idx → BitVec 32) (ix1 0) :=
  congrArg (x : S1.Idx → BitVec 32) (one _)

/-- What the body computes: the sum of the slots, the device's own array in place of its slot. -/
theorem pay (w : BitVec 32) (x : FVec Ideal S752x128 .f32) (s0 s1 s2 s3 s4 s5 s6 s7 : FVec Ideal S1x752x128 .f32) (r : Fin 752) (l : Fin 128) :
    (k0_pay1 (F := Ideal) (k0_pay2 x) (k0_pay3 x w s0 w s1 w s2 w s3 w s4) w s5 w s6 w s7 (ix2 r l) : EReal)
    = (if w = 0#32 then x (ix2 r l) else s0 (ix3 0 r l)) + (if w = 1#32 then x (ix2 r l) else s1 (ix3 0 r l))
      + (if w = 2#32 then x (ix2 r l) else s2 (ix3 0 r l)) + (if w = 3#32 then x (ix2 r l) else s3 (ix3 0 r l))
      + (if w = 4#32 then x (ix2 r l) else s4 (ix3 0 r l)) + (if w = 5#32 then x (ix2 r l) else s5 (ix3 0 r l))
      + (if w = 6#32 then x (ix2 r l) else s6 (ix3 0 r l)) + (if w = 7#32 then x (ix2 r l) else s7 (ix3 0 r l)) := by
  simp only [← sel]
  unfold k0_pay1 k0_pay3 k0_pay2
  have e0 : ∀ v : BitVec 1, ∀ a b : FVec Ideal S752x128 .f32, Scalar.select v a b (ix2 r l) = Scalar.select v (a (ix2 r l)) (b (ix2 r l)) := fun v a b => by
    unfold Scalar.select; split <;> rfl
  simp only [addf_apply, e0]
  pointwise
  rfl

/-- What the body stores over any blocks. -/
theorem body (c : Dev nD) (i : grid0.Coords) (arg2 : Memref sig .tc .vmem S752x128 .f32) (h2 : arg2.IsWhole) (arg3 : Memref sig .tc .vmem S8x752x128 .f32) (h3 : arg3.IsWhole)
    (arg4 : Memref sig .tc .vmem S752x128 .f32) (h4 : arg4.IsWhole) (x : FVec Ideal S752x128 .f32) (s : FVec Ideal S8x752x128 .f32) (w : TbBuf0 (F := Ideal) c tbM0_0) (r : Fin 752) (l : Fin 128) :
    (out0_A_2 c i arg2 h2 arg3 h3 arg4 h4 x s w (ix2 r l) : EReal)
      = ∑ d : Fin 8, if (w : S1.Idx → BitVec 32) (ix1 0) = BitVec.ofNat 32 d.val then x (ix2 r l) else s (ix3 d r l) := by
  frame_out
  have e : View.read (Elt Ideal) (View.whole main_arg2) w (Shape.Idx.first (numel1_S1 ▸ Nat.one_pos)) = (w : S1.Idx → BitVec 32) (ix1 0) := word c w _
  rw [e]
  refine (pay _ x _ _ _ _ _ _ _ _ r l).trans ?_
  rw [Fin.sum_univ_eight]
  pointwise

/-- What the body stores. -/
theorem out (c : Dev nD) (t : Fin (cfgM m (ok m)).N) (r : Fin 752) (l : Fin 128) :
    (outsAt0 m (ok m) c t (ix2 r l) : EReal) = ∑ d : Fin 8, if D m c = BitVec.ofNat 32 d.val then A m c (ix2 r l) else B m c (ix3 d r l) := by
  refine (body c _ _ _ _ _ _ _ (iblk m (ok m) c 0 t) (iblk m (ok m) c 1 t) (tbl m 0) r l).trans (Finset.sum_congr rfl fun d _ => ?_)
  rw [table m c, rb0 m c t, rb1 m c t]

/-- The slots' sum with the device's own array in its place is the sum of what the devices packed. -/
theorem total (c : Dev nD) (r : Fin 752) (l : Fin 128) :
    (∑ d : Fin 8, if D m c = BitVec.ofNat 32 d.val then A m c (ix2 r l) else B m c (ix3 d r l))
      = ∑ d : Fin 8, (X m c (ix3 d r l) : EReal) := by
  refine Finset.sum_congr rfl fun d _ => ?_
  split
  · exact own m c d (by assumption) r l
  · rw [slots, if_neg (by intro h; exact absurd h.symm (by assumption))]

/-- The reference's sum. -/
theorem ref (x : FVec Ideal Cert.Reference10Ideal.S8x752x128 .f32) (r : Fin 752) (l : Fin 128) :
    (Cert.Reference10Ideal.Read.val_main_v0 (F := Ideal) x (ix2 r l) : EReal) = ∑ d : Fin 8, x (ix3 d r l) := by
  pointwise [Cert.Reference10Ideal.Read.val_main_v0, Cert.Reference10Ideal.Read.val_main_cst]

/-- The result's window covers its array. -/
theorem covers : ((cfgM m (ok m)).win 2).Covers :=
  Pipeline.Window.covers_of_indexMap_surj _ rfl (by intro a; match a with | ⟨0, _⟩ => exact (by decide : 0 < 752) | ⟨1, _⟩ => exact (by decide : 0 < 128)) fun β => ⟨grid0.coords t0_0, fun a => by
    refine (zero2 m t0_0 a).trans ?_
    match a with
    | ⟨0, h⟩ => exact (Nat.lt_one_iff.mp (lt_of_lt_of_eq (β ⟨0, h⟩).isLt (by decide : (752 + 752 - 1) / 752 = 1))).symm
    | ⟨1, h⟩ => exact (Nat.lt_one_iff.mp (lt_of_lt_of_eq (β ⟨1, h⟩).isLt (by decide : (128 + 128 - 1) / 128 = 1))).symm⟩

/-- What the body stores is the reference's sum. -/
theorem entry (c : Dev nD) (t : Fin (cfgM m (ok m)).N) (y : S752x128.Idx) :
    outsAt0 m (ok m) c t y = Cert.Reference10Ideal.Read.val_main_v0 (F := Ideal) (X m c) y := by
  idx_vars y
  exact (out m c t y0 y1).trans ((total m c y0 y1).trans (ref (X m c) y0 y1).symm)

/-- The sum after the call is the reference's. -/
theorem final (c : Dev nD) : (dats m (ok m) 0 c).arrAt 2 (cfgM m (ok m)).N = Cert.Reference10Ideal.Read.val_main_v0 (F := Ideal) (X m c) := by
  refine (dats m (ok m) 0 c).arrAt_eq_of_covers 2 _ (covers m) fun t hf y => ?_
  blk_simp
  rw [after0_2]
  refine (entry m c t y).trans (congrArg (Cert.Reference10Ideal.Read.val_main_v0 (F := Ideal) (X m c)) ?_)
  blk_ext
  · exact Eq.symm ((congrArg (fun n => n * 752 + _) (zero2 m t 0)).trans ((congrArg (· + _) (Nat.zero_mul 752)).trans (Nat.zero_add _)))
  · exact Eq.symm ((congrArg (fun n => n * 128 + _) (zero2 m t 1)).trans ((congrArg (· + _) (Nat.zero_mul 128)).trans (Nat.zero_add _)))

/-- After the call the result holds the reference's sum and the arguments are as they were. -/
theorem run (g : Dev nD → PrngReg) : θ_run defs (onTc (τ := τ) (main (F := Ideal))) ⟨m, fun _ => 0, g⟩ (fun r => ∀ c : Dev nD,
      r.2.mem ((c.tc : Thread nD τ).loc main_v7) = Cert.Reference10Ideal.Read.val_main_v0 (F := Ideal) (X m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h => fun c => ⟨(h.1 c).1 2 |>.trans (final m c), h.2 c⟩)
    (θ_run_and (run_main m g (ok m)) (unchanged m g (ok m)))

/-- The printed call runs, keeps its arguments and ends quiescent. -/
theorem frame_bits : Cert.quiescent_Kernel10 := fun m ρ _ => Cert.Kernel10.Gen.frame m ρ trivial

/-- The idealized call runs, keeps its arguments and ends quiescent. -/
theorem frame_ideal : Cert.quiescent_Kernel10Ideal := fun m ρ _ => Cert.Kernel10Ideal.Gen.frame m ρ (ok m)

/-- The reference runs, keeps its arguments and ends quiescent: it has host operations only and declares no semaphore. -/
theorem frame_ref : Cert.quiescent_Reference10Ideal := by
  intro m g _
  exact (θ_run Cert.Reference10Ideal.defs _ _).mono (fun r h => ⟨fun c => (h c).2, sem_eq_zero_of_no_sems (by decide) r.2⟩)
    (Cert.Reference10Ideal.Value.run m g)

/-- The call computes the sum of what the devices packed. -/
theorem value : Cert.algebraic_Kernel10Ideal_Reference10Ideal := by
  intro m g m' g' _ hagree
  refine ⟨fun c => Cert.Reference10Ideal.Read.val_main_v0 (F := Ideal) (X m c), run m g, ?_⟩
  refine (θ_run Cert.Reference10Ideal.defs _ _).mono (fun r h c => ⟨(h c).1.trans ?_, (h c).2⟩) (Cert.Reference10Ideal.Value.run m' g')
  exact (Cert.Reference10Ideal.Read.val_main_v0_eq _).trans (congrArg (Cert.Reference10Ideal.Read.val_main_v0 (F := Ideal)) (hagree c).1)

end Cert.SmallSum

end
-- ==== Proof.Half.lean ====
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal.Read
public import proofs.«01_k».proof.Proof.Gen.Pre_is_core
public import Idealize.ShloMosaic.Lib.Pipeline.ValueKit
public import Idealize.ShloMosaic.Lib.Pipeline.ReadBack
public import Idealize.ShloMosaic.Lib.Pipeline.Covers
public import Idealize.ShloMosaic.Lib.Pointwise
public import Idealize.ShloMosaic.Lib.DynamicIndex
public import Idealize.ShloMosaic.Lib.WordCmp
public import Idealize.ShloMosaic.Lib.Claim

set_option maxRecDepth 16384

@[expose] public section

noncomputable section

open Idealize.ShloMosaic Idealize.ShloMosaic.TcCoe Idealize.SL.Sem

namespace Cert.Half

/-- An array of one word has one index. -/
theorem one {S : Shape} (h : S = ⟨1, ![1]⟩) (i j : S.Idx) : i = j := by
  subst h
  exact funext fun a => Subsingleton.elim (α := Fin ((⟨1, ![1]⟩ : Shape).size a))
    (h := by match a with | ⟨0, _⟩ => exact inferInstanceAs (Subsingleton (Fin 1))) _ _

/-- The precondition says that the core's number is 0 or 1. -/
theorem core_of {F : FTy → Type} [FloatOps F] (x : FVec F Cert.Pre_is_core.S2x4x704x1024 .f32) (w : IVec Cert.Pre_is_core.S1 32)
    (h : Cert.Pre_is_core.fn (F := F) x w = fun _ => 1#1) : ∃ k : Fin 2, w = fun _ => BitVec.ofNat 32 k.val := by
  have e : IntOp.ori (IntOp.cmpi .eq (w (ix1 0)) 0#32) (IntOp.cmpi .eq (w (ix1 0)) 1#32) = 1#1 := congrFun h (ix1 0)
  have d : w (ix1 0) = 0#32 ∨ w (ix1 0) = 1#32 := by
    by_contra n
    rw [not_or] at n
    have a : (w (ix1 0) == 0#32) = false := by simpa using n.1
    have b : (w (ix1 0) == 1#32) = false := by simpa using n.2
    simp [IntOp.cmpi, IntOp.ori, a, b] at e
  rcases d with d | d
  · exact ⟨0, funext fun i => (congrArg w (one rfl i _)).trans d⟩
  · exact ⟨1, funext fun i => (congrArg w (one rfl i _)).trans d⟩

section Printed

open Cert.Kernel11 Cert.Kernel11.Gen

/-- The table at core k. -/
def pfB (k : Fin 2) : pre0.Contents (Elt Bits) := fun | ⟨0, _⟩ => fun _ => BitVec.ofNat 32 k.val | ⟨_ + 1, h⟩ => absurd h (by simp)

/-- At either core every block lies inside its array. -/
theorem okB : ∀ k : Fin 2, ok0 (F := Bits) (pfB k) := by decide +kernel

/-- The printed call runs, keeps its arguments and ends quiescent. -/
theorem frame_bits : Cert.quiescent_Kernel11 := fun m ρ h => by
  obtain ⟨k, hk⟩ := core_of _ _ (h 0)
  refine Cert.Kernel11.Gen.frame m ρ ?_
  have e : tbl m = pfB k := funext fun j => by match j with | ⟨0, _⟩ => exact hk
  rw [Ok, e]
  exact okB k

end Printed

open Cert.Kernel11Ideal Cert.Kernel11Ideal.Gen

/-- The table at core k. -/
def pf (k : Fin 2) : pre0.Contents (Elt Ideal) := fun | ⟨0, _⟩ => fun _ => BitVec.ofNat 32 k.val | ⟨_ + 1, h⟩ => absurd h (by simp)

/-- At either core every block lies inside its array. -/
theorem ok_pf : ∀ k : Fin 2, ok0 (F := Ideal) (pf k) := by decide +kernel

/-- The block that each window shows at each point: the core's half, the half that came, the half of the sum. -/
theorem maps : ∀ (k : Fin 2) (t : Fin grid0.N), cc0_transform_0 inb_S1_S1_0 numel1_S1 (pf k) (grid0.coords t) = ![t.val, k.val, 0]
    ∧ cc0_transform_1 (grid0.coords t) = ![t.val, 0, 0]
    ∧ cc0_transform_2 (grid0.coords t) = ![t.val, 0, 0] := by decide +kernel

variable (m : (ℓ : Loc nD τ sig) → Buf (Elt Ideal) ℓ)

/-- The two cores' gradients. -/
abbrev X (c : Dev nD) : FVec Ideal S2x4x704x1024 .f32 := m ((c : Thread nD τ).loc main_arg0)
/-- The core's number. -/
abbrev D (c : Dev nD) : IVec S1 32 := m ((c : Thread nD τ).loc main_arg1)

/-- The table the region is handed at core k. -/
theorem table {k : Fin 2} (h : D m 0 = fun _ => BitVec.ofNat 32 k.val) : tbl m = pf k :=
  funext fun j => by match j with | ⟨0, _⟩ => exact h

/-- At core k the table's contents are admissible. -/
theorem ok {k : Fin 2} (h : D m 0 = fun _ => BitVec.ofNat 32 k.val) : Ok m := by
  rw [Ok, table m h]
  exact ok_pf k

/-- The idealized call runs, keeps its arguments and ends quiescent. -/
theorem frame_ideal : Cert.quiescent_Kernel11Ideal := fun m ρ h => by
  obtain ⟨k, hk⟩ := core_of _ _ (h 0)
  exact Cert.Kernel11Ideal.Gen.frame m ρ (ok m hk)

/-- The reference runs, keeps its arguments and ends quiescent: it has host operations only and declares no semaphore. -/
theorem frame_ref : Cert.quiescent_Reference11Ideal := by
  intro m g _
  exact (θ_run Cert.Reference11Ideal.defs _ _).mono (fun r h => ⟨fun c => (h c).2, sem_eq_zero_of_no_sems (by decide) r.2⟩)
    (Cert.Reference11Ideal.Value.run m g)

/-- The same under the precondition. -/
theorem frame_ref_core : Cert.quiescent_Reference11Ideal_pre_is_core := fun m g _ => frame_ref m g trivial

variable {k : Fin 2} (h : D m 0 = fun _ => BitVec.ofNat 32 k.val)
include h

theorem idx0 (t : Fin (cfgM m (ok m h)).N) : (pcfg0.win (adm m (ok m h)) 0).index t = ![t.val, k.val, 0] := by
  have e := (maps k t).1
  rw [← table m h] at e
  exact e
theorem idx1 (t : Fin (cfgM m (ok m h)).N) : (pcfg0.win (adm m (ok m h)) 1).index t = ![t.val, 0, 0] := (maps k t).2.1
theorem idx2 (t : Fin (cfgM m (ok m h)).N) : (pcfg0.win (adm m (ok m h)) 2).index t = ![t.val, 0, 0] := (maps k t).2.2

omit h
/-- The core's own gradient as the region finds it. -/
abbrev A (c : Dev nD) : FVec Ideal S4x704x1024 .f32 := V m c main_v1
/-- The half that came, as the region finds it. -/
abbrev B (c : Dev nD) : FVec Ideal S4x352x1024 .f32 := V m c main_v10

/-- The number as the host reads it. -/
abbrev num (c : Dev nD) : IVec S_ 32 := shapeCast S_ (D m c) shapeCasts_S1_S_

/-- The other core's gradient. -/
abbrev O (c : Dev nD) : FVec Ideal S4x704x1024 .f32 := V m c main_v4

/-- The host's choice of the core's own gradient. -/
theorem hostA (c : Dev nD) : ∃ start : Fin 4 → Int,
    A m c = shapeCast S4x704x1024 (Host.dynamicSlice S1x4x704x1024 (X m c) start sliceFits_S2x4x704x1024_S1x4x704x1024) shapeCasts_S1x4x704x1024_S4x704x1024
      ∧ start 0 = (select (cmpi .slt (num m c) (constantI S_ 32 0#32)) (addi (num m c) (constantI S_ 32 2#32)) (num m c) (Shape.Idx.first h_S_)).toInt
      ∧ start 1 = 0 ∧ start 2 = 0 ∧ start 3 = 0 := ⟨_, rfl, rfl, rfl, rfl, rfl⟩

/-- The host's choice of the other core's gradient. -/
theorem hostO (c : Dev nD) : ∃ start : Fin 4 → Int,
    O m c = shapeCast S4x704x1024 (Host.dynamicSlice S1x4x704x1024 (X m c) start sliceFits_S2x4x704x1024_S1x4x704x1024) shapeCasts_S1x4x704x1024_S4x704x1024
      ∧ start 0 = (select (cmpi .slt (subi (constantI S_ 32 1#32) (num m c)) (constantI S_ 32 0#32)) (addi (subi (constantI S_ 32 1#32) (num m c)) (constantI S_ 32 2#32)) (subi (constantI S_ 32 1#32) (num m c)) (Shape.Idx.first h_S_)).toInt
      ∧ start 1 = 0 ∧ start 2 = 0 ∧ start 3 = 0 := ⟨_, rfl, rfl, rfl, rfl, rfl⟩

/-- The host's choice of the half that is sent. -/
theorem hostB (c : Dev nD) : ∃ start : Fin 3 → Int,
    B m c = Host.dynamicSlice S4x352x1024 (O m c) start sliceFits_S4x704x1024_S4x352x1024
      ∧ start 1 = (select (cmpi .slt (muli (num m c) (constantI S_ 32 352#32)) (constantI S_ 32 0#32)) (addi (muli (num m c) (constantI S_ 32 352#32)) (constantI S_ 32 704#32)) (muli (num m c) (constantI S_ 32 352#32)) (Shape.Idx.first h_S_)).toInt
      ∧ start 0 = 0 ∧ start 2 = 0 := ⟨_, rfl, rfl, rfl, rfl⟩

/-- A word in the table is the host's number. -/
theorem num_eq (c : Dev nD) {k : Fin 2} (h : D m c = fun _ => BitVec.ofNat 32 k.val) : num m c = constantI S_ 32 (BitVec.ofNat 32 k.val) := by
  rw [num, h]; rfl

/-- The other core's number. -/
theorem other_eq : ∀ k : Fin 2, subi (constantI S_ 32 1#32) (constantI S_ 32 (BitVec.ofNat 32 k.val)) = constantI S_ 32 (BitVec.ofNat 32 k.rev.val)
  | 0 => funext fun _ => (by decide : (1#32 - 0#32 : BitVec 32) = 1#32)
  | 1 => funext fun _ => (by decide : (1#32 - 1#32 : BitVec 32) = 0#32)

/-- The first row of the core's half. -/
theorem row_eq : ∀ k : Fin 2, muli (constantI S_ 32 (BitVec.ofNat 32 k.val)) (constantI S_ 32 352#32) = constantI S_ 32 (BitVec.ofNat 32 (k.val * 352))
  | 0 => rfl
  | 1 => rfl

/-- Each core's gradient lies inside. -/
theorem fits : ∀ k : Fin 2, S2x4x704x1024.Slices ![k.val, 0, 0, 0] S1x4x704x1024 := by decide

/-- Each half lies inside. -/
theorem fits_half : ∀ k : Fin 2, S4x704x1024.Slices ![0, k.val * 352, 0] S4x352x1024 := by decide

/-- A row of a half. -/
abbrev at_ (k : Fin 2) (r : Fin 352) : Fin 704 := ⟨k.val * 352 + r.val, by omega⟩

/-- The core's own gradient. -/
theorem own (c : Dev nD) {k : Fin 2} (h : D m c = fun _ => BitVec.ofNat 32 k.val) (s : Fin 4) (r : Fin 704) (l : Fin 1024) :
    A m c (ix3 s r l) = X m c (ix4 k s r l) := by
  obtain ⟨start, e, h0, h1, h2, h3⟩ := hostA m c
  rw [num_eq m c h, toInt_wrap_ofNat _ (by omega)] at h0
  refine (congrFun e _).trans ?_
  rw [Host.dynamicSlice_eq_extractStridedSlice _ _ _ ![k.val, 0, 0, 0] _ (fits k) (fun a => by
    match a with
    | ⟨0, _⟩ => exact h0
    | ⟨1, _⟩ => exact h1
    | ⟨2, _⟩ => exact h2
    | ⟨3, _⟩ => exact h3)]
  generalize X m c = x
  pointwise

/-- The other core's gradient. -/
theorem sent (c : Dev nD) {k : Fin 2} (h : D m c = fun _ => BitVec.ofNat 32 k.val) (s : Fin 4) (r : Fin 704) (l : Fin 1024) :
    O m c (ix3 s r l) = X m c (ix4 k.rev s r l) := by
  obtain ⟨start, e, h0, h1, h2, h3⟩ := hostO m c
  rw [num_eq m c h, other_eq k, toInt_wrap_ofNat _ (by omega)] at h0
  refine (congrFun e _).trans ?_
  rw [Host.dynamicSlice_eq_extractStridedSlice _ _ _ ![k.rev.val, 0, 0, 0] _ (fits k.rev) (fun a => by
    match a with
    | ⟨0, _⟩ => exact h0
    | ⟨1, _⟩ => exact h1
    | ⟨2, _⟩ => exact h2
    | ⟨3, _⟩ => exact h3)]
  generalize X m c = x
  pointwise

/-- The half that came: the other core's, at the rows this core keeps. -/
theorem came (c : Dev nD) {k : Fin 2} (h : D m c = fun _ => BitVec.ofNat 32 k.val) (s : Fin 4) (r : Fin 352) (l : Fin 1024) :
    B m c (ix3 s r l) = X m c (ix4 k.rev s (at_ k r) l) := by
  obtain ⟨start, e, h1, h0, h2⟩ := hostB m c
  rw [num_eq m c h, row_eq k, toInt_wrap_ofNat _ (by omega)] at h1
  rw [← sent m c h]
  refine (congrFun e _).trans ?_
  rw [Host.dynamicSlice_eq_extractStridedSlice _ _ _ ![0, k.val * 352, 0] _ (fits_half k) (fun a => by
    match a with
    | ⟨0, _⟩ => exact h0
    | ⟨1, _⟩ => exact h1
    | ⟨2, _⟩ => exact h2)]
  generalize O m c = x
  pointwise

/-- What the body computes. -/
theorem pay (x y : FVec Ideal S1x352x1024 .f32) (r : Fin 352) (l : Fin 1024) :
    (k0_pay1 (F := Ideal) x y (ix3 0 r l) : EReal) = x (ix3 0 r l) + y (ix3 0 r l) := by
  pointwise [k0_pay1]

/-- What the body stores over any blocks. -/
theorem body (c : Dev nD) (i : grid0.Coords) (arg3 : Memref sig .tc .vmem S1x352x1024 .f32) (h3 : arg3.IsWhole) (arg4 : Memref sig .tc .vmem S1x352x1024 .f32) (h4 : arg4.IsWhole)
    (arg5 : Memref sig .tc .vmem S1x352x1024 .bf16) (h5 : arg5.IsWhole) (x y : FVec Ideal S1x352x1024 .f32) (w : TbBuf0 (F := Ideal) c tbM0_0) (r : Fin 352) (l : Fin 1024) :
    (out0_A_2 c i arg3 h3 arg4 h4 arg5 h5 x y w (ix3 0 r l) : EReal) = x (ix3 0 r l) + y (ix3 0 r l) := by
  frame_out
  exact pay x y r l

/-- The reference: the sum of the two cores' gradients at the core's rows. -/
theorem ref (x : FVec Ideal Cert.Reference11Ideal.S2x4x704x1024 .f32) {w : IVec Cert.Reference11Ideal.S1 32} : ∀ (k : Fin 2) (h : w = fun _ => BitVec.ofNat 32 k.val) (s : Fin 4) (r : Fin 352) (l : Fin 1024),
    (Cert.Reference11Ideal.Read.val_main_v6 (F := Ideal) x w (ix3 s r l) : EReal) = x (ix4 k s (at_ k r) l) + x (ix4 k.rev s (at_ k r) l)
  | 0, h, s, r, l => by
    subst h
    pointwise [Cert.Reference11Ideal.Read.val_main_v6, Cert.Reference11Ideal.Read.val_main_v5, Cert.Reference11Ideal.Read.val_main_v4, Cert.Reference11Ideal.Read.val_main_v3, Cert.Reference11Ideal.Read.val_main_v2, Cert.Reference11Ideal.Read.val_main_v1, Cert.Reference11Ideal.Read.val_main_v0, Cert.Reference11Ideal.Read.val_main_c, Cert.Reference11Ideal.Read.val_main_cst]
    have e : at_ 0 r = ⟨r.val, by omega⟩ := Fin.ext (by simp)
    rw [e, (by decide : (0 : Fin 2).rev = 1)]
    exact Fin.sum_univ_two _
  | 1, h, s, r, l => by
    subst h
    pointwise [Cert.Reference11Ideal.Read.val_main_v6, Cert.Reference11Ideal.Read.val_main_v5, Cert.Reference11Ideal.Read.val_main_v4, Cert.Reference11Ideal.Read.val_main_v3, Cert.Reference11Ideal.Read.val_main_v2, Cert.Reference11Ideal.Read.val_main_v1, Cert.Reference11Ideal.Read.val_main_v0, Cert.Reference11Ideal.Read.val_main_c, Cert.Reference11Ideal.Read.val_main_cst]
    have e : at_ 1 r = ⟨352 + r.val, by omega⟩ := Fin.ext (by simp)
    rw [e, (by decide : (1 : Fin 2).rev = 0), (by decide : IntOp.cmpi CmpIPredicate.eq 1#32 0#32 = 0#1)]
    refine Eq.trans (b := ∑ d : Fin 2, x (ix4 d s ⟨352 + r.val, by omega⟩ l)) rfl ?_
    exact (Fin.sum_univ_two _).trans (add_comm _ _)

include h

/-- The points of the grid number the four blocks. -/
theorem pt_lt (t : Fin (cfgM m (ok m h)).N) : t.val < 4 := lt_of_lt_of_eq t.isLt (by decide +kernel : grid0.N = 4)

/-- The core's own block. -/
theorem rb0 (c : Dev nD) (t : Fin (cfgM m (ok m h)).N) (r : Fin 352) (l : Fin 1024) :
    iblk m (ok m h) c 0 t (ix3 0 r l) = A m c (ix3 ⟨t.val, pt_lt m h t⟩ (at_ k r) l) := by
  blk_simp [iblk]
  blk_ext
  · exact congrFun (idx0 m h t) 0
  · exact (congrArg (fun n => n * 352 + r.val) (congrFun (idx0 m h t) 1)).trans (by simp)
  · exact (congrArg (fun n => n * 1024 + l.val) (congrFun (idx0 m h t) 2)).trans (by simp)

/-- The block that came. -/
theorem rb1 (c : Dev nD) (t : Fin (cfgM m (ok m h)).N) (r : Fin 352) (l : Fin 1024) :
    iblk m (ok m h) c 1 t (ix3 0 r l) = B m c (ix3 ⟨t.val, pt_lt m h t⟩ r l) := by
  blk_simp [iblk]
  blk_ext
  · exact congrFun (idx1 m h t) 0
  · exact (congrArg (fun n => n * 352 + r.val) (congrFun (idx1 m h t) 1)).trans (by simp)
  · exact (congrArg (fun n => n * 1024 + l.val) (congrFun (idx1 m h t) 2)).trans (by simp)

/-- What the body stores is the reference's block. -/
theorem entry (c : Dev nD) (t : Fin (cfgM m (ok m h)).N) (y : S1x352x1024.Idx) :
    (outsAt0 m (ok m h) c t y : EReal) = Cert.Reference11Ideal.Read.val_main_v6 (F := Ideal) (X m c) (D m c)
      (ix3 ⟨t.val, pt_lt m h t⟩ (y 1 : Fin 352) (y 2 : Fin 1024)) := by
  obtain rfl : c = 0 := Subsingleton.elim _ _
  idx_vars y
  obtain rfl : y0 = 0 := Subsingleton.elim _ _
  refine (body 0 _ _ _ _ _ _ _ (iblk m (ok m h) 0 0 t) (iblk m (ok m h) 0 1 t) (tbl m 0) y1 y2).trans ?_
  rw [rb0 m h, rb1 m h, own m 0 h, came m 0 h]
  exact (ref (X m 0) k h _ y1 y2).symm

/-- The result's window covers its array. -/
theorem covers : ((cfgM m (ok m h)).win 2).Covers :=
  Pipeline.Window.covers_of_indexMap_surj _ rfl (by intro a; match a with | ⟨0, _⟩ => exact (by decide : 0 < 1) | ⟨1, _⟩ => exact (by decide : 0 < 352) | ⟨2, _⟩ => exact (by decide : 0 < 1024)) fun β => by
    have p0 : 0 < 3 := by decide
    have p1 : 1 < 3 := by decide
    have p2 : 2 < 3 := by decide
    have b0 : (β ⟨0, p0⟩).val < 4 := lt_of_lt_of_eq (β ⟨0, p0⟩).isLt (by decide : (4 + 1 - 1) / 1 = 4)
    have b1 : (β ⟨1, p1⟩).val < 1 := lt_of_lt_of_eq (β ⟨1, p1⟩).isLt (by decide : (352 + 352 - 1) / 352 = 1)
    have b2 : (β ⟨2, p2⟩).val < 1 := lt_of_lt_of_eq (β ⟨2, p2⟩).isLt (by decide : (1024 + 1024 - 1) / 1024 = 1)
    refine ⟨grid0.coords ⟨(β ⟨0, p0⟩).val, lt_of_lt_of_eq b0 (by decide +kernel : 4 = grid0.N)⟩, fun a => ?_⟩
    refine (congrFun (maps k ⟨(β ⟨0, p0⟩).val, _⟩).2.2 a).trans ?_
    match a with
    | ⟨0, _⟩ => rfl
    | ⟨1, _⟩ => exact (Nat.lt_one_iff.mp b1).symm
    | ⟨2, _⟩ => exact (Nat.lt_one_iff.mp b2).symm

/-- The result after the call is the reference's. -/
theorem final (c : Dev nD) : (dats m (ok m h) 0 c).arrAt 2 (cfgM m (ok m h)).N = Cert.Reference11Ideal.Read.val_main_v6 (F := Ideal) (X m c) (D m c) := by
  refine (dats m (ok m h) 0 c).arrAt_eq_of_covers 2 _ (covers m h) fun t hf y => ?_
  blk_simp
  rw [after0_2]
  refine (entry m h c t y).trans (congrArg (Cert.Reference11Ideal.Read.val_main_v6 (F := Ideal) (X m c) (D m c)) ?_)
  blk_ext
  · exact (congrFun (idx2 m h t) 0).symm
  · exact Eq.symm ((congrArg (fun n => n * 352 + _) (congrFun (idx2 m h t) 1)).trans ((congrArg (· + _) (Nat.zero_mul 352)).trans (Nat.zero_add _)))
  · exact Eq.symm ((congrArg (fun n => n * 1024 + _) (congrFun (idx2 m h t) 2)).trans ((congrArg (· + _) (Nat.zero_mul 1024)).trans (Nat.zero_add _)))

/-- After the call the result holds the reference's sum and the arguments are as they were. -/
theorem run (g : Dev nD → PrngReg) : θ_run defs (onTc (τ := τ) (main (F := Ideal))) ⟨m, fun _ => 0, g⟩ (fun r => ∀ c : Dev nD,
      r.2.mem ((c.tc : Thread nD τ).loc main_v11) = Cert.Reference11Ideal.Read.val_main_v6 (F := Ideal) (X m c) (D m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r q => fun c => ⟨(q.1 c).1 2 |>.trans (final m h c), q.2 c⟩)
    (θ_run_and (run_main m g (ok m h)) (unchanged m g (ok m h)))

omit h
/-- The call computes the core's half of the sum of the two cores' gradients. -/
theorem value : Cert.algebraic_Kernel11Ideal_Reference11Ideal := by
  intro m g m' g' hp hagree
  obtain ⟨k, h⟩ := core_of _ _ (hp 0)
  refine ⟨fun c => Cert.Reference11Ideal.Read.val_main_v6 (F := Ideal) (X m c) (D m c), run m h g, ?_⟩
  refine (θ_run Cert.Reference11Ideal.defs _ _).mono (fun r q c => ⟨(q c).1.trans ?_, (q c).2⟩) (Cert.Reference11Ideal.Value.run m' g')
  refine (Cert.Reference11Ideal.Read.val_main_v6_eq _ _).trans ?_
  rw [(hagree c).1, (hagree c).2]

end Cert.Half

end
-- ==== Proof.lean ====
module

public import Idealize.ShloMosaic.Adequacy
public import Idealize.ShloMosaic.Init
public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.MixInClaim
public import proofs.«01_k».proof.Proof.MixOutClaim
public import proofs.«01_k».proof.Proof.WGradClaim
public import proofs.«01_k».proof.Proof.Ffn1Claim
public import proofs.«01_k».proof.Proof.Ffn2Claim
public import proofs.«01_k».proof.Proof.MixInFwdClaim
public import proofs.«01_k».proof.Proof.MixOutFwdClaim
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.AdamW
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read
public import proofs.«01_k».proof.Proof.SmallSum
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal.Read
public import proofs.«01_k».proof.Proof.Gen.Pre_is_core
public import proofs.«01_k».proof.Proof.Half

@[expose] public section

noncomputable section

open Idealize.ShloMosaic Idealize.SL.Sem

namespace Cert.Proof

/-- The certificate. -/
theorem claim : Cert.Claim :=
  ⟨Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts, Cert.Pre_is_core.Gen.facts,
    Cert.MixIn.frame_bits, Cert.MixIn.frame_ideal, Cert.MixIn.frame_ref,
    Cert.MixOut.frame_bits, Cert.MixOut.frame_ideal, Cert.MixOut.frame_ref,
    Cert.WGrad.frame_bits, Cert.WGrad.frame_ideal, Cert.WGrad.frame_ref,
    Cert.Ffn1.frame_bits, Cert.Ffn1.frame_ideal, Cert.Ffn1.frame_ref,
    Cert.Ffn2.frame_bits, Cert.Ffn2.frame_ideal, Cert.Ffn2.frame_ref,
    Cert.MixInFwd.frame_bits, Cert.MixInFwd.frame_ideal, Cert.MixInFwd.frame_ref,
    Cert.MixOutFwd.frame_bits, Cert.MixOutFwd.frame_ideal, Cert.MixOutFwd.frame_ref,
    Cert.AdamW.frame_bits, Cert.AdamW.frame_ideal, Cert.AdamW.frame_ref,
    Cert.SmallSum.frame_bits, Cert.SmallSum.frame_ideal, Cert.SmallSum.frame_ref,
    Cert.Half.frame_bits, Cert.Half.frame_ideal, Cert.Half.frame_ref, Cert.Half.frame_ref_core,
    trivial, Cert.MixIn.value,
    trivial, Cert.MixOut.value,
    trivial, Cert.WGrad.value,
    trivial, Cert.Ffn1.value,
    trivial, Cert.Ffn2.value,
    trivial, Cert.MixInFwd.value,
    trivial, Cert.MixOutFwd.value,
    trivial, Cert.AdamW.value,
    trivial, Cert.SmallSum.value,
    trivial, Cert.Half.value⟩

end Cert.Proof

end
